-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 2]⟩ ⟨2, ![2048, 2]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x8 : Shape := ⟨2, ![256, 8]⟩
abbrev S512x2 : Shape := ⟨2, ![512, 2]⟩
abbrev S2x256x512 : Shape := ⟨3, ![2, 256, 512]⟩
abbrev S_ : Shape := ⟨0, ![]⟩
abbrev S512x1 : Shape := ⟨2, ![512, 1]⟩

class Facts : Prop where
  bitsLt_bf16_f32 : FTy.bits .bf16 < FTy.bits .f32
  bcast_S_S512x256 : S_.BroadcastsInDim S512x256 (![] : Fin 0 → Fin S512x256.rank)
  reducesTo_S512x256_S_d0_1 : S512x256.ReducesTo [0, 1] S_
  h_S_ : 0 < S_.numel
  bcast_S_S256x8 : S_.BroadcastsInDim S256x8 (![] : Fin 0 → Fin S256x8.rank)
  reducesTo_S256x8_S_d0_1 : S256x8.ReducesTo [0, 1] S_
  bcast_S_S512x2 : S_.BroadcastsInDim S512x2 (![] : Fin 0 → Fin S512x2.rank)
  slices_S512x2_S512x1_0_0 : S512x2.Slices ![0, 0] S512x1
  slices_S512x2_S512x1_0_1 : S512x2.Slices ![0, 1] S512x1
  reducesTo_S512x1_S_d0_1 : S512x1.ReducesTo [0, 1] S_

variable [Facts]

def fn_part1 {F : FTy → Type} [FloatOps F] (main_v15 : IVec S_ 1) (main_v16 : IVec S512x1 1) (main_v17 : IVec S512x1 1) : IVec S_ 1 :=
  let main_v18 : IVec S512x1 1 := ori main_v16 main_v17
  let main_c_4 : IVec S_ 1 := constantI S_ 1 1#1
  let main_v19 : IVec S_ 1 := (fun x v => Host.reduce IntOp.andi x v reducesTo_S512x1_S_d0_1 h_S_) main_v18 main_c_4
  let main_v20 : IVec S_ 1 := andi main_v15 main_v19
  main_v20

def fn {F : FTy → Type} [FloatOps F] (main_arg0 : FVec F S512x256 .bf16) (main_arg1 : FVec F S256x8 .bf16) (main_arg2 : IVec S512x2 32) (main_arg3 : FVec F S2x256x512 .bf16) : IVec S_ 1 :=
  let main_v0 : FVec F S512x256 .f32 := (extf .f32 · bitsLt_bf16_f32) main_arg0
  let main_v1 : FVec F S512x256 .f32 := Host.absf main_v0
  let main_cst : FVec F S_ .f32 := constant S_ .f32 0x7F800000#32
  let main_v2 : FVec F S512x256 .f32 := broadcastInDim S512x256 ![] bcast_S_S512x256 main_cst
  let main_v3 : IVec S512x256 1 := cmpf .olt main_v1 main_v2
  let main_c : IVec S_ 1 := constantI S_ 1 1#1
  let main_v4 : IVec S_ 1 := (fun x v => Host.reduce IntOp.andi x v reducesTo_S512x256_S_d0_1 h_S_) main_v3 main_c
  let main_v5 : FVec F S256x8 .f32 := (extf .f32 · bitsLt_bf16_f32) main_arg1
  let main_v6 : FVec F S256x8 .f32 := Host.absf main_v5
  let main_cst_0 : FVec F S_ .f32 := constant S_ .f32 0x7F800000#32
  let main_v7 : FVec F S256x8 .f32 := broadcastInDim S256x8 ![] bcast_S_S256x8 main_cst_0
  let main_v8 : IVec S256x8 1 := cmpf .olt main_v6 main_v7
  let main_c_1 : IVec S_ 1 := constantI S_ 1 1#1
  let main_v9 : IVec S_ 1 := (fun x v => Host.reduce IntOp.andi x v reducesTo_S256x8_S_d0_1 h_S_) main_v8 main_c_1
  let main_c_2 : IVec S_ 32 := constantI S_ 32 0#32
  let main_v10 : IVec S512x2 32 := broadcastInDim S512x2 ![] bcast_S_S512x2 main_c_2
  let main_v11 : IVec S512x2 1 := cmpi .sge main_arg2 main_v10
  let main_c_3 : IVec S_ 32 := constantI S_ 32 8#32
  let main_v12 : IVec S512x2 32 := broadcastInDim S512x2 ![] bcast_S_S512x2 main_c_3
  let main_v13 : IVec S512x2 1 := cmpi .slt main_arg2 main_v12
  let main_v14 : IVec S512x2 1 := andi main_v11 main_v13
  let main_v15 : IVec S_ 1 := andi main_v4 main_v9
  let main_v16 : IVec S512x1 1 := (extractStridedSlice S512x1 ![0, 0] · slices_S512x2_S512x1_0_0) main_v14
  let main_v17 : IVec S512x1 1 := (extractStridedSlice S512x1 ![0, 1] · slices_S512x2_S512x1_0_1) main_v14
  fn_part1 (F := F) main_v15 main_v16 main_v17
-- ==== Pre_routed_ReferenceIdeal.lean ====
abbrev S2048x256 : Shape := ⟨2, ![2048, 256]⟩
abbrev S256x8 : Shape := ⟨2, ![256, 8]⟩
abbrev S2048x2 : Shape := ⟨2, ![2048, 2]⟩
abbrev S8x256x512 : Shape := ⟨3, ![8, 256, 512]⟩
abbrev S_ : Shape := ⟨0, ![]⟩
abbrev S2048x1 : Shape := ⟨2, ![2048, 1]⟩

class Facts : Prop where
  bitsLt_bf16_f32 : FTy.bits .bf16 < FTy.bits .f32
  bcast_S_S2048x256 : S_.BroadcastsInDim S2048x256 (![] : Fin 0 → Fin S2048x256.rank)
  reducesTo_S2048x256_S_d0_1 : S2048x256.ReducesTo [0, 1] S_
  h_S_ : 0 < S_.numel
  bcast_S_S256x8 : S_.BroadcastsInDim S256x8 (![] : Fin 0 → Fin S256x8.rank)
  reducesTo_S256x8_S_d0_1 : S256x8.ReducesTo [0, 1] S_
  bcast_S_S2048x2 : S_.BroadcastsInDim S2048x2 (![] : Fin 0 → Fin S2048x2.rank)
  slices_S2048x2_S2048x1_0_0 : S2048x2.Slices ![0, 0] S2048x1
  slices_S2048x2_S2048x1_0_1 : S2048x2.Slices ![0, 1] S2048x1
  reducesTo_S2048x1_S_d0_1 : S2048x1.ReducesTo [0, 1] S_

variable [Facts]

def fn_part1 {F : FTy → Type} [FloatOps F] (main_v15 : IVec S_ 1) (main_v16 : IVec S2048x1 1) (main_v17 : IVec S2048x1 1) : IVec S_ 1 :=
  let main_v18 : IVec S2048x1 1 := ori main_v16 main_v17
  let main_c_4 : IVec S_ 1 := constantI S_ 1 1#1
  let main_v19 : IVec S_ 1 := (fun x v => Host.reduce IntOp.andi x v reducesTo_S2048x1_S_d0_1 h_S_) main_v18 main_c_4
  let main_v20 : IVec S_ 1 := andi main_v15 main_v19
  main_v20

def fn {F : FTy → Type} [FloatOps F] (main_arg0 : FVec F S2048x256 .bf16) (main_arg1 : FVec F S256x8 .bf16) (main_arg2 : IVec S2048x2 32) (main_arg3 : FVec F S8x256x512 .bf16) : IVec S_ 1 :=
  let main_v0 : FVec F S2048x256 .f32 := (extf .f32 · bitsLt_bf16_f32) main_arg0
  let main_v1 : FVec F S2048x256 .f32 := Host.absf main_v0
  let main_cst : FVec F S_ .f32 := constant S_ .f32 0x7F800000#32
  let main_v2 : FVec F S2048x256 .f32 := broadcastInDim S2048x256 ![] bcast_S_S2048x256 main_cst
  let main_v3 : IVec S2048x256 1 := cmpf .olt main_v1 main_v2
  let main_c : IVec S_ 1 := constantI S_ 1 1#1
  let main_v4 : IVec S_ 1 := (fun x v => Host.reduce IntOp.andi x v reducesTo_S2048x256_S_d0_1 h_S_) main_v3 main_c
  let main_v5 : FVec F S256x8 .f32 := (extf .f32 · bitsLt_bf16_f32) main_arg1
  let main_v6 : FVec F S256x8 .f32 := Host.absf main_v5
  let main_cst_0 : FVec F S_ .f32 := constant S_ .f32 0x7F800000#32
  let main_v7 : FVec F S256x8 .f32 := broadcastInDim S256x8 ![] bcast_S_S256x8 main_cst_0
  let main_v8 : IVec S256x8 1 := cmpf .olt main_v6 main_v7
  let main_c_1 : IVec S_ 1 := constantI S_ 1 1#1
  let main_v9 : IVec S_ 1 := (fun x v => Host.reduce IntOp.andi x v reducesTo_S256x8_S_d0_1 h_S_) main_v8 main_c_1
  let main_c_2 : IVec S_ 32 := constantI S_ 32 0#32
  let main_v10 : IVec S2048x2 32 := broadcastInDim S2048x2 ![] bcast_S_S2048x2 main_c_2
  let main_v11 : IVec S2048x2 1 := cmpi .sge main_arg2 main_v10
  let main_c_3 : IVec S_ 32 := constantI S_ 32 8#32
  let main_v12 : IVec S2048x2 32 := broadcastInDim S2048x2 ![] bcast_S_S2048x2 main_c_3
  let main_v13 : IVec S2048x2 1 := cmpi .slt main_arg2 main_v12
  let main_v14 : IVec S2048x2 1 := andi main_v11 main_v13
  let main_v15 : IVec S_ 1 := andi main_v4 main_v9
  let main_v16 : IVec S2048x1 1 := (extractStridedSlice S2048x1 ![0, 0] · slices_S2048x2_S2048x1_0_0) main_v14
  let main_v17 : IVec S2048x1 1 := (extractStridedSlice S2048x1 ![0, 1] · slices_S2048x2_S2048x1_0_1) main_v14
  fn_part1 (F := F) main_v15 main_v16 main_v17
-- ==== Kernel.lean ====
abbrev S512x256 : Shape := ⟨2, ![512, 256]⟩
abbrev S256x8 : Shape := ⟨2, ![256, 8]⟩
abbrev S512x2 : Shape := ⟨2, ![512, 2]⟩
abbrev S2x256x512 : Shape := ⟨3, ![2, 256, 512]⟩
abbrev S512x512 : Shape := ⟨2, ![512, 512]⟩
abbrev S4x2x256x512 : Shape := ⟨4, ![4, 2, 256, 512]⟩
abbrev S6 : Shape := ⟨1, ![6]⟩
abbrev S_ : Shape := ⟨0, ![]⟩
abbrev S1 : Shape := ⟨1, ![1]⟩
abbrev S1x1x256x512 : Shape := ⟨4, ![1, 1, 256, 512]⟩
abbrev S256x512 : Shape := ⟨2, ![256, 512]⟩
abbrev S1x256x512 : Shape := ⟨3, ![1, 256, 512]⟩
abbrev S8x256 : Shape := ⟨2, ![8, 256]⟩
abbrev S512x8 : Shape := ⟨2, ![512, 8]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S512x256, .bf16⟩
  | .hbm, ⟨1, _⟩ => ⟨S256x8, .bf16⟩
  | .hbm, ⟨2, _⟩ => ⟨S512x2, .i32⟩
  | .hbm, ⟨3, _⟩ => ⟨S2x256x512, .bf16⟩
  | .hbm, ⟨4, _⟩ => ⟨S512x512, .bf16⟩
  | .local _ .vmem, ⟨0, _⟩ => ⟨S512x256, .bf16⟩
  | .local _ .vmem, ⟨1, _⟩ => ⟨S256x8, .bf16⟩
  | .local _ .vmem, ⟨2, _⟩ => ⟨S512x2, .i32⟩
  | .local _ .vmem, ⟨3, _⟩ => ⟨S2x256x512, .bf16⟩
  | .local _ .vmem, ⟨4, _⟩ => ⟨S512x512, .bf16⟩
  | .local _ .vmem, ⟨5, _⟩ => ⟨S4x2x256x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_15 : BitVec 32 := 1#32
  let v13 : BitVec 32 := Scalar.muli v7 c1_i32_15
  let v14 : BitVec 32 := Scalar.addi c0_i32_16 v13
  v14.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_25 : BitVec 32 := 1#32
  let v23 : BitVec 32 := Scalar.muli v5 c1_i32_25
  let v24 : BitVec 32 := Scalar.addi c0_i32_26 v23
  v24.toNat
def k0_dev5 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_36 : BitVec 32 := 1#32
  let v33 : BitVec 32 := Scalar.muli v7 c1_i32_36
  let v34 : BitVec 32 := Scalar.addi c0_i32_37 v33
  v34.toNat
def k0_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_47 : BitVec 32 := 1#32
  let v43 : BitVec 32 := Scalar.muli v5 c1_i32_47
  let v44 : BitVec 32 := Scalar.addi c0_i32_48 v43
  v44.toNat
def k0_dev7 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_122 : BitVec 32 := 1#32
  let v187 : BitVec 32 := Scalar.muli v7 c1_i32_122
  let v188 : BitVec 32 := Scalar.addi c0_i32_123 v187
  v188.toNat
def k0_dev8 (d0 : Dev nD) : Nat :=
  let c0_i32_150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_149 : BitVec 32 := 1#32
  let v209 : BitVec 32 := Scalar.muli v5 c1_i32_149
  let v210 : BitVec 32 := Scalar.addi c0_i32_150 v209
  v210.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x256 : Shape := ⟨2, ![2048, 256]⟩
abbrev S256x8 : Shape := ⟨2, ![256, 8]⟩
abbrev S2048x2 : Shape := ⟨2, ![2048, 2]⟩
abbrev S8x256x512 : Shape := ⟨3, ![8, 256, 512]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8x512 : Shape := ⟨3, ![2048, 8, 512]⟩
abbrev S2048x8x1 : Shape := ⟨3, ![2048, 8, 1]⟩
abbrev S2048x512 : Shape := ⟨2, ![2048, 512]⟩

abbrev nBuf : Space → Nat
  | .hbm => 63
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S256x8, .bf16⟩
  | .hbm, ⟨2, _⟩ => ⟨S2048x2, .i32⟩
  | .hbm, ⟨3, _⟩ => ⟨S8x256x512, .bf16⟩
  | .hbm, ⟨4, _⟩ => ⟨S2048x256, .f32⟩
  | .hbm, ⟨5, _⟩ => ⟨S256x8, .f32⟩
  | .hbm, ⟨6, _⟩ => ⟨S8x256x512, .f32⟩
  | .hbm, ⟨7, _⟩ => ⟨S2048x8, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S2048x8, .f32⟩
  | .hbm, ⟨12, _⟩ => ⟨S2048x8, .f32⟩
  | .hbm, ⟨13, _⟩ => ⟨S2048x8, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x8, .f32⟩
  | .hbm, ⟨18, _⟩ => ⟨S2048x8, .f32⟩
  | .hbm, ⟨19, _⟩ => ⟨S2048x1, .i32⟩
  | .hbm, ⟨20, _⟩ => ⟨S2048, .i32⟩
  | .hbm, ⟨21, _⟩ => ⟨S2048x1, .i32⟩
  | .hbm, ⟨22, _⟩ => ⟨S1x8, .i32⟩
  | .hbm, ⟨23, _⟩ => ⟨S2048x8, .i32⟩
  | .hbm, ⟨24, _⟩ => ⟨S2048x8, .i32⟩
  | .hbm, ⟨25, _⟩ => ⟨S2048x8, .i1⟩
  | .hbm, ⟨26, _⟩ => ⟨S2048x8, .f32⟩
  | .hbm, ⟨27, _⟩ => ⟨S2048x1, .i32⟩
  | .hbm, ⟨28, _⟩ => ⟨S2048, .i32⟩
  | .hbm, ⟨29, _⟩ => ⟨S2048x1, .i32⟩
  | .hbm, ⟨30, _⟩ => ⟨S1x8, .i32⟩
  | .hbm, ⟨31, _⟩ => ⟨S2048x8, .i32⟩
  | .hbm, ⟨32, _⟩ => ⟨S2048x8, .i32⟩
  | .hbm, ⟨33, _⟩ => ⟨S2048x8, .i1⟩
  | .hbm, ⟨34, _⟩ => ⟨S2048x8, .f32⟩
  | .hbm, ⟨35, _⟩ => ⟨S2048x8, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x8, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S2048x1, .f32⟩
  | .hbm, ⟨44, _⟩ => ⟨S2048x8x512, .f32⟩
  | .hbm, ⟨45, _⟩ => ⟨S2048x8x1, .f32⟩
  | .hbm, ⟨46, _⟩ => ⟨S2048x8x512, .f32⟩
  | .hbm, ⟨47, _⟩ => ⟨S2048x8x512, .f32⟩
  | .hbm, ⟨48, _⟩ => ⟨S_, .f32⟩
  | .hbm, ⟨49, _⟩ => ⟨S2048x512, .f32⟩
  | .hbm, ⟨50, _⟩ => ⟨S2048x8x1, .f32⟩
  | .hbm, ⟨51, _⟩ => ⟨S2048x8x512, .f32⟩
  | .hbm, ⟨52, _⟩ => ⟨S2048x8x512, .f32⟩
  | .hbm, ⟨53, _⟩ => ⟨S_, .f32⟩
  | .hbm, ⟨54, _⟩ => ⟨S2048x512, .f32⟩
  | .hbm, ⟨55, _⟩ => ⟨S2048x1, .f32⟩
  | .hbm, ⟨56, _⟩ => ⟨S2048x512, .f32⟩
  | .hbm, ⟨57, _⟩ => ⟨S2048x512, .f32⟩
  | .hbm, ⟨58, _⟩ => ⟨S2048x1, .f32⟩
  | .hbm, ⟨59, _⟩ => ⟨S2048x512, .f32⟩
  | .hbm, ⟨60, _⟩ => ⟨S2048x512, .f32⟩
  | .hbm, ⟨61, _⟩ => ⟨S2048x512, .f32⟩
  | .hbm, ⟨62, _⟩ => ⟨S2048x512, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Proof.Protocol.lean ====
/-
The protocol of the kernel: four devices in a ring, each with two expert weights.

Every device sends its two experts to both neighbours (copies 0 to 3) and forwards one block of each neighbour's
to the other one (copies 4 and 5), so that each device receives the six experts it has not got. Copies with an even
number travel to the next device, copies with an odd number to the previous one. Before the first copy each device
tells both neighbours through the barrier semaphore that its landing buffer may be written.

A device's cells: its barrier cell with two duties (paid by its two neighbours, each handing over the three slots the
device will write on it), and a send and a receive cell per copy with one duty each (the receive cell's hands over the
slot with the block that landed, the send cell's gives the source's share back).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Ring.FamCut
public import Idealize.ShloMosaic.Lib.Tactic

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's rounds and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The ring -/

set_option backward.proofsInPublic true in
/-- The device to the right. -/
def nxt (c : Dev nD) : Dev nD := ⟨(c.val + 1) % 4, Nat.mod_lt _ (by decide)⟩
set_option backward.proofsInPublic true in
/-- The device to the left. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

/-- The device copy `i` goes to. -/
abbrev tgt : Fin 6 → Dev nD → Dev nD
  | 0 => nxt | 1 => prv | 2 => nxt | 3 => prv | 4 => nxt | 5 => prv
/-- The device copy `i` comes from. -/
abbrev org : Fin 6 → Dev nD → Dev nD
  | 0 => prv | 1 => nxt | 2 => prv | 3 => nxt | 4 => prv | 5 => nxt

theorem org_tgt (i : Fin 6) (c : Dev nD) : org i (tgt i c) = c := by revert i c; decide
theorem tgt_org (i : Fin 6) (c : Dev nD) : tgt i (org i c) = c := by revert i c; decide
/-- Along copy `i`, as a permutation of the devices. -/
def along (i : Fin 6) : Dev nD ≃ Dev nD := ⟨tgt i, org i, org_tgt i, tgt_org i⟩

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = tgt 0 c := Fin.ext (k0_dev3_eq c)
theorem dev4_eq (c : Dev nD) : (⟨k0_dev4 c, k0_dev4_lt c⟩ : Dev nD) = tgt 1 c := Fin.ext (k0_dev4_eq c)
theorem dev5_eq (c : Dev nD) : (⟨k0_dev5 c, k0_dev5_lt c⟩ : Dev nD) = tgt 2 c := Fin.ext (k0_dev5_eq c)
theorem dev6_eq (c : Dev nD) : (⟨k0_dev6 c, k0_dev6_lt c⟩ : Dev nD) = tgt 3 c := Fin.ext (k0_dev6_eq c)
theorem dev7_eq (c : Dev nD) : (⟨k0_dev7 c, k0_dev7_lt c⟩ : Dev nD) = tgt 4 c := Fin.ext (k0_dev7_eq c)
theorem dev8_eq (c : Dev nD) : (⟨k0_dev8 c, k0_dev8_lt c⟩ : Dev nD) = tgt 5 c := Fin.ext (k0_dev8_eq c)

/-! ## The memrefs and cells -/

abbrev xM : Memref sig .tc .vmem S512x256 .bf16 := Memref.whole cc0_stg0_0
abbrev rwM : Memref sig .tc .vmem S256x8 .bf16 := Memref.whole cc0_stg1_0
abbrev idM : Memref sig .tc .vmem S512x2 .i32 := Memref.whole cc0_stg2_0
abbrev ewM : Memref sig .tc .vmem S2x256x512 .bf16 := Memref.whole cc0_stg3_0
abbrev oM : Memref sig .tc .vmem S512x512 .bf16 := Memref.whole cc0_stg4_0
abbrev aM : Memref sig .tc .vmem S4x2x256x512 .bf16 := Memref.whole cc0_scratch0

/-- Where the slot of copy `i` lies in the landing buffer. -/
abbrev soff : Fin 6 → Fin 4 → ℕ
  | 0 => ![1, 0, 0, 0] | 1 => ![3, 1, 0, 0] | 2 => ![1, 1, 0, 0] | 3 => ![3, 0, 0, 0] | 4 => ![2, 0, 0, 0] | 5 => ![2, 1, 0, 0]
theorem soff_inb : ∀ (i : Fin 6) (a : Fin 4), soff i a + S1x1x256x512.size a ≤ S4x2x256x512.size a := by decide
abbrev slotR (i : Fin 6) : Rect S4x2x256x512 := Rect.unit (s := S4x2x256x512) (soff i) S1x1x256x512.size (soff_inb i)
/-- The slot copy `i` writes, as a matrix. -/
abbrev slotM (i : Fin 6) : Memref sig .tc .vmem S256x512 .bf16 :=
  (aM.slice (slotR i) (fun _ => rfl)).squeeze S256x512 squeezes_S1x1x256x512_S256x512

/-- Where expert `k` lies in a device's own weights. -/
abbrev eoff : Fin 2 → Fin 3 → ℕ
  | 0 => ![0, 0, 0] | 1 => ![1, 0, 0]
theorem eoff_inb : ∀ (k : Fin 2) (a : Fin 3), eoff k a + S1x256x512.size a ≤ S2x256x512.size a := by decide
abbrev expR (k : Fin 2) : Rect S2x256x512 := Rect.unit (s := S2x256x512) (eoff k) S1x256x512.size (eoff_inb k)
/-- A device's own expert `k`, as a matrix. -/
abbrev expM (k : Fin 2) : Memref sig .tc .vmem S256x512 .bf16 :=
  (ewM.slice (expR k) (fun _ => rfl)).squeeze S256x512 squeezes_S1x256x512_S256x512

abbrev barS : Sem sig := (SemArray.scalar (sig.barrier 0 rfl) : Sems sig S_).sem
abbrev sendS : Fin 6 → DmaSem sig
  | 0 => ((cc0_scratch1.slice (Rect.unit (s := S6) ![0] S1.size inb_S6_S1_0)).squeeze S_ squeezes_S1_S_).sem
  | 1 => ((cc0_scratch1.slice (Rect.unit (s := S6) ![1] S1.size inb_S6_S1_1)).squeeze S_ squeezes_S1_S_).sem
  | 2 => ((cc0_scratch1.slice (Rect.unit (s := S6) ![2] S1.size inb_S6_S1_2)).squeeze S_ squeezes_S1_S_).sem
  | 3 => ((cc0_scratch1.slice (Rect.unit (s := S6) ![3] S1.size inb_S6_S1_3)).squeeze S_ squeezes_S1_S_).sem
  | 4 => ((cc0_scratch1.slice (Rect.unit (s := S6) ![4] S1.size inb_S6_S1_4)).squeeze S_ squeezes_S1_S_).sem
  | 5 => ((cc0_scratch1.slice (Rect.unit (s := S6) ![5] S1.size inb_S6_S1_5)).squeeze S_ squeezes_S1_S_).sem
abbrev recvS : Fin 6 → DmaSem sig
  | 0 => ((cc0_scratch2.slice (Rect.unit (s := S6) ![0] S1.size inb_S6_S1_0)).squeeze S_ squeezes_S1_S_).sem
  | 1 => ((cc0_scratch2.slice (Rect.unit (s := S6) ![1] S1.size inb_S6_S1_1)).squeeze S_ squeezes_S1_S_).sem
  | 2 => ((cc0_scratch2.slice (Rect.unit (s := S6) ![2] S1.size inb_S6_S1_2)).squeeze S_ squeezes_S1_S_).sem
  | 3 => ((cc0_scratch2.slice (Rect.unit (s := S6) ![3] S1.size inb_S6_S1_3)).squeeze S_ squeezes_S1_S_).sem
  | 4 => ((cc0_scratch2.slice (Rect.unit (s := S6) ![4] S1.size inb_S6_S1_4)).squeeze S_ squeezes_S1_S_).sem
  | 5 => ((cc0_scratch2.slice (Rect.unit (s := S6) ![5] S1.size inb_S6_S1_5)).squeeze S_ squeezes_S1_S_).sem

abbrev barCell (c : Dev nD) : GSem nD τ sig := ((c : Thread nD τ), .reg barS)
abbrev sendCell (i : Fin 6) (c : Dev nD) : GSem nD τ sig := ((c : Thread nD τ), .dma (sendS i))
abbrev recvCell (i : Fin 6) (c : Dev nD) : GSem nD τ sig := ((c : Thread nD τ), .dma (recvS i))

/-- The cells of one device: the barrier (`none`), the send (`false`) and the receive (`true`) cell of each copy. -/
abbrev CK : Type := Option (Bool × Fin 6)
/-- The kernel's own semaphores, scoped to it; -/
abbrev osem (k : Bool × Fin 6) : SemLoc sig := match k with
  | (false, i) => .dma (sendS i) | (true, i) => .dma (recvS i)
/-- with the barrier, all of the ring's. -/
abbrev csem (k : CK) : SemLoc sig := match k with
  | none => .reg barS | some (false, i) => .dma (sendS i) | some (true, i) => .dma (recvS i)
abbrev kcell (ck : Dev nD × CK) : GSem nD τ sig := ((ck.1 : Thread nD τ), csem ck.2)

theorem csem_injective : Function.Injective csem := by decide

/-- Which cell a semaphore is, if it is one of the ring's. -/
def which (s : SemLoc sig) : Option CK :=
  if s = .reg barS then some none else
    match (List.finRange 6).find? fun i => s = .dma (sendS i) with
    | some i => some (some (false, i))
    | none => match (List.finRange 6).find? fun i => s = .dma (recvS i) with
      | some i => some (some (true, i))
      | none => none

theorem which_csem (k : CK) : which (csem k) = some k := by revert k; decide
theorem which_bar : which (.reg barS) = some none := which_csem none
theorem which_send (i : Fin 6) : which (.dma (sendS i)) = some (some (false, i)) := which_csem (some (false, i))
theorem which_recv (i : Fin 6) : which (.dma (recvS i)) = some (some (true, i)) := which_csem (some (true, i))

/-- What one copy counts on its semaphores. -/
abbrev N : ℕ := (slotM 0).view.dmaCredit
theorem N_pos : 0 < N := View.dmaCredit_pos _ (by decide)
theorem slot_credit (i : Fin 6) : (slotM i).view.dmaCredit = N := by fin_cases i <;> rfl

/-! ## Contents -/

def xstg (c : Dev nD) : (cc0_stg0_0 : Ref sig .tc).ty.Contents (Elt F) :=
  (win0_0.blk (0 : Fin 1)).view.read (Elt F) (m ((c : Thread nD τ).loc main_arg0))
def rwstg (c : Dev nD) : (cc0_stg1_0 : Ref sig .tc).ty.Contents (Elt F) :=
  (win0_1.blk (0 : Fin 1)).view.read (Elt F) (m ((c : Thread nD τ).loc main_arg1))
def idstg (c : Dev nD) : (cc0_stg2_0 : Ref sig .tc).ty.Contents (Elt F) :=
  (win0_2.blk (0 : Fin 1)).view.read (Elt F) (m ((c : Thread nD τ).loc main_arg2))
def ewstg (c : Dev nD) : (cc0_stg3_0 : Ref sig .tc).ty.Contents (Elt F) :=
  (win0_3.blk (0 : Fin 1)).view.read (Elt F) (m ((c : Thread nD τ).loc main_arg3))

/-- Device `c`'s own expert `k`. -/
def expert (k : Fin 2) (c : Dev nD) : S256x512.Idx → Elt F .bf16 := (expM k).view.read (Elt F) (ewstg m c)

/-- The expert copy `i` brings to device `c`. -/
def block (i : Fin 6) (c : Dev nD) : S256x512.Idx → Elt F .bf16 := match i with
  | 0 => expert m 0 (prv c) | 1 => expert m 1 (nxt c) | 2 => expert m 1 (prv c) | 3 => expert m 0 (nxt c)
  | 4 => expert m 0 (prv (prv c)) | 5 => expert m 1 (nxt (nxt c))

/-- The landing buffer with copy `i`'s block in its slot (only the slot is ever read). -/
def landed (i : Fin 6) (c : Dev nD) : Buf (Elt F) (aM.view.loc (c : Thread nD τ)) :=
  (slotM i).view.write (Elt F) (m ((c : Thread nD τ).loc cc0_scratch0)) (block m i c) Finset.univ

omit [FloatOps F] in
theorem read_landed (i : Fin 6) (c : Dev nD) : (slotM i).view.read (Elt F) (landed m i c) = block m i c :=
  View.read_write_univ _ _

/-- The slot of copy `i` on device `c`, at share `q` and contents `f`. -/
def slotPts (i : Fin 6) (q : PosShare TreeShare) (c : Dev nD) (f : Buf (Elt F) (aM.view.loc (c : Thread nD τ))) : sProp 𝕄 :=
  (slotM i).view.loc (c : Thread nD τ) ↦[(slotM i).view.set]{q} f
/-- Device `c`'s own expert `k`, at share `q`. -/
def expPts (k : Fin 2) (q : PosShare TreeShare) (c : Dev nD) : sProp 𝕄 :=
  (expM k).view.loc (c : Thread nD τ) ↦[(expM k).view.set]{q} ewstg m c

omit [FloatOps F] in
instance slotPts_storable (i : Fin 6) (q) (c : Dev nD) (f) : BI.Storable (upEmb : UEmb _ 𝕄) (slotPts (F := F) i q c f) := by
  unfold slotPts; infer_instance
omit [FloatOps F] in
instance expPts_storable (k : Fin 2) (q) (c : Dev nD) : BI.Storable (upEmb : UEmb _ 𝕄) (expPts (F := F) m k q c) := by
  unfold expPts; infer_instance

omit [FloatOps F] in
/-- A slot written with a block over any contents holds what `landed` says. -/
theorem slot_landed (i : Fin 6) (c : Dev nD) (fd : Buf (Elt F) (aM.view.loc (c : Thread nD τ))) (w : S256x512.Idx → Elt F .bf16)
    (hw : w = block m i c) :
    slotPts i fullShare c ((slotM i).view.write (Elt F) fd w Finset.univ) = (slotPts i fullShare c (landed m i c) : sProp 𝕄) := by
  unfold slotPts
  refine pointsTo_congr fun y hy => ?_
  obtain ⟨x, _, rfl⟩ := Finset.mem_map.mp hy
  unfold landed
  rw [View.write_emb_of_mem _ _ (Finset.mem_univ x), View.write_emb_of_mem _ _ (Finset.mem_univ x), hw]

/-! ## The schedule -/

/-- What a neighbour hands device `c` through the barrier: `true`, from the next device, the slots that copies 0, 2 and
    4 write there; `false`, from the previous one, the slots of copies 1, 3 and 5. -/
def barPay (d : Bool) (c : Dev nD) : sProp 𝕄 := match d with
  | true => iprop((∃ f, slotPts 0 fullShare (nxt c) f) ∗ (∃ f, slotPts 2 fullShare (nxt c) f) ∗ ∃ f, slotPts 4 fullShare (nxt c) f)
  | false => iprop((∃ f, slotPts 1 fullShare (prv c) f) ∗ (∃ f, slotPts 3 fullShare (prv c) f) ∗ ∃ f, slotPts 5 fullShare (prv c) f)
/-- What a landed copy hands its receiver. -/
def recvPay (i : Fin 6) (c : Dev nD) : sProp 𝕄 := slotPts i fullShare c (landed m i c)
/-- What a sent copy gives back to its sender: the share of the source it read through. -/
def sendPay (i : Fin 6) (c : Dev nD) : sProp 𝕄 := match i with
  | 0 => expPts m 0 fullShare.left c | 1 => expPts m 1 fullShare.left c
  | 2 => expPts m 1 fullShare.right.left c | 3 => expPts m 0 fullShare.right.left c
  | 4 => slotPts 0 fullShare.left c (landed m 0 c) | 5 => slotPts 1 fullShare.left c (landed m 1 c)

def pay (k : CK) (c : Dev nD) (d : Bool) : sProp 𝕄 := match k with
  | none => barPay d c | some (false, i) => sendPay m i c | some (true, i) => recvPay m i c

omit [FloatOps F] in
instance pay_storable (k : CK) (c : Dev nD) (d : Bool) : BI.Storable (upEmb : UEmb _ 𝕄) (pay (F := F) m k c d) := by
  unfold pay barPay sendPay recvPay
  (repeat' split) <;> infer_instance

/-- One round: the barrier cell has two duties of one unit, a send or receive cell one duty of a copy's credit. -/
def ringRd : Rounds.Schedule (GSem nD τ sig) Bool 𝕄 where
  duties g r := if r = 0 ∧ g.1.2 = .tc then (match which g.2 with | some none => Finset.univ | some (some _) => {false} | none => ∅) else ∅
  unitless _ := False
  amount g _ _ := if which g.2 = some none then 1 else N
  payload g _ d := match which g.2 with | some k => pay m k g.1.1 d | none => iprop(emp)
  amount_pos g _ _ _ := by
    by_cases h : which g.2 = some none
    · rw [if_pos h]; exact Nat.one_pos
    · rw [if_neg h]; exact N_pos

instance ringRd_payload_storable (g : GSem nD τ sig) (r : ℕ) (d : Bool) :
    BI.Storable (upEmb : UEmb _ 𝕄) ((ringRd (F := F) m).payload g r d) := by
  show BI.Storable upEmb (match which g.2 with | some k => pay m k g.1.1 d | none => iprop(emp))
  split <;> infer_instance

omit [FloatOps F] in
theorem payload_cell (k : CK) (c : Dev nD) (d : Bool) : (ringRd (F := F) m).payload (kcell (c, k)) 0 d = pay m k c d := by
  dsimp only [ringRd]; rw [which_csem]
omit [FloatOps F] in
theorem duties_bar (c : Dev nD) : (ringRd (F := F) m).duties (barCell c) 0 = Finset.univ := by
  dsimp only [ringRd]; rw [if_pos ⟨rfl, rfl⟩, which_bar]
omit [FloatOps F] in
theorem duties_send (i : Fin 6) (c : Dev nD) : (ringRd (F := F) m).duties (sendCell i c) 0 = {false} := by
  dsimp only [ringRd]; rw [if_pos ⟨rfl, rfl⟩, which_send]
omit [FloatOps F] in
theorem duties_recv (i : Fin 6) (c : Dev nD) : (ringRd (F := F) m).duties (recvCell i c) 0 = {false} := by
  dsimp only [ringRd]; rw [if_pos ⟨rfl, rfl⟩, which_recv]
omit [FloatOps F] in
theorem duties_later (g : GSem nD τ sig) : ∀ r, 1 ≤ r → (ringRd (F := F) m).duties g r = ∅ :=
  fun r hr => by dsimp only [ringRd]; rw [if_neg fun h => by omega]
omit [FloatOps F] in
theorem amount_bar (c : Dev nD) (d : Bool) : (ringRd (F := F) m).amount (barCell c) 0 d = 1 := by
  dsimp only [ringRd]; rw [which_bar, if_pos rfl]
omit [FloatOps F] in
theorem amount_send (i : Fin 6) (c : Dev nD) (d : Bool) : (ringRd (F := F) m).amount (sendCell i c) 0 d = N := by
  dsimp only [ringRd]; rw [which_send, if_neg (by simp)]
omit [FloatOps F] in
theorem amount_recv (i : Fin 6) (c : Dev nD) (d : Bool) : (ringRd (F := F) m).amount (recvCell i c) 0 d = N := by
  dsimp only [ringRd]; rw [which_recv, if_neg (by simp)]

/-- What a wait on a cell takes. -/
abbrev kamt : CK → ℕ | none => 2 | some _ => N

omit [FloatOps F] in
theorem expect_cell (k : CK) (c : Dev nD) : (ringRd (F := F) m).expect (kcell (c, k)) 0 = kamt k := by
  unfold Schedule.expect Schedule.amountOf
  rcases k with _ | ⟨_ | _, i⟩
  · rw [duties_bar, Finset.sum_congr rfl fun d _ => amount_bar m c d, Finset.sum_const, Finset.card_univ, Fintype.card_bool, smul_eq_mul]
  · rw [duties_send, Finset.sum_singleton, amount_send]
  · rw [duties_recv, Finset.sum_singleton, amount_recv]

/-- All that a wait on a cell hands its owner. -/
def payAll (k : CK) (c : Dev nD) : sProp 𝕄 := match k with
  | none => iprop(barPay false c ∗ barPay true c) | some (false, i) => sendPay m i c | some (true, i) => recvPay m i c

omit [FloatOps F] in
theorem rest_cell (k : CK) (c : Dev nD) :
    bigSep ((ringRd (F := F) m).duties (kcell (c, k)) 0 \ ∅) (fun d => (ringRd (F := F) m).payload (kcell (c, k)) 0 d) = payAll m k c := by
  simp only [payload_cell]
  rw [Finset.sdiff_empty]
  rcases k with _ | ⟨_ | _, i⟩
  · rw [duties_bar, bigSep_univ_eq_bigSepL [false, true] (by decide) (by decide), bigSepL_cons_cons, bigSepL_singleton]; rfl
  · rw [duties_send, bigSep_singleton]; rfl
  · rw [duties_recv, bigSep_singleton]; rfl

/-! ## What each core owes; the levels -/

/-- Copy `i`'s credit at its target. -/
abbrev owing1 (i : Fin 6) (c : Dev nD) : CellTallies nD τ sig Unit := tallyAt (recvCell i (tgt i c)) () N
/-- What is owed when the last `n` copies are still to start, the next one to start being the last summand. -/
def owed : ℕ → Dev nD → CellTallies nD τ sig Unit
  | 0, _ => 0
  | n + 1, c => owed n c + owing1 (Fin.ofNat 6 (5 - n)) c
/-- After the first signal (to the left) the unit at the right neighbour's barrier is still owed; -/
def O₁ (c : Dev nD) : CellTallies nD τ sig Unit := owed 6 c + tallyAt (barCell (nxt c)) () 1
/-- at launch both are. -/
def O₀ (c : Dev nD) : CellTallies nD τ sig Unit := O₁ c + tallyAt (barCell (prv c)) () 1

def L (g : GSem nD τ sig) : Finset Unit := if g.1.2 = .tc then {()} else ∅
/-- Staging and send cells below the barrier cells, these below the receive cells of the direct copies, these below
    those of the forwarded ones. -/
def lv (g : GSem nD τ sig) (_ : Unit) : ℕ := match which g.2 with
  | some none => 1 | some (some (true, i)) => if i.val < 4 then 2 else 3 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [which_bar]
theorem lv_recv (i : Fin 6) (c : Dev nD) (u : Unit) : lv (recvCell i c) u = if i.val < 4 then 2 else 3 := by unfold lv; rw [which_recv]

theorem tallyAt_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

theorem add_pos {O O' : CellTallies nD τ sig Unit} {g : GSem nD τ sig} {u : Unit} (h : 0 < (O + O') g u) : 0 < O g u ∨ 0 < O' g u := by
  rw [Pi.add_apply, Finsupp.add_apply] at h; omega

/-- What is owed with `n` copies to start lies at receive cells of those copies. -/
theorem owed_pos {n : ℕ} {c : Dev nD} {g : GSem nD τ sig} {u : Unit} (h : 0 < owed n c g u) :
    ∃ j, j < n ∧ g = recvCell (Fin.ofNat 6 (5 - j)) (tgt (Fin.ofNat 6 (5 - j)) c) := by
  induction n with
  | zero => exact absurd h (Nat.lt_irrefl 0)
  | succ n ih =>
    rcases add_pos h with h | h
    · obtain ⟨j, hj, hg⟩ := ih h; exact ⟨j, Nat.lt_succ_of_lt hj, hg⟩
    · exact ⟨n, Nat.lt_succ_self n, tallyAt_pos h⟩

theorem O₀_pos {c : Dev nD} {g : GSem nD τ sig} {u : Unit} (h : 0 < O₀ c g u) : (∃ i c', g = recvCell i c') ∨ ∃ c', g = barCell c' := by
  rcases add_pos h with h | h
  · rcases add_pos h with h | h
    · obtain ⟨j, _, hg⟩ := owed_pos h; exact Or.inl ⟨_, _, hg⟩
    · exact Or.inr ⟨_, tallyAt_pos h⟩
  · exact Or.inr ⟨_, tallyAt_pos h⟩

omit [FloatOps F] in
/-- A wait at a level below everything owed is allowed. -/
theorem mayWait_below (c : Dev nD) (s : SemLoc sig) (O : CellTallies nD τ sig Unit) (b : ℕ) (hs : lv ((c : Thread nD τ), s) () ≤ b)
    (hO : ∀ g u, 0 < O g u → L g = {()} ∧ b < lv g ()) : (levAts L lv : sProp 𝕄) ⊢ MayWait (c : Thread nD τ) s () O :=
  MayOwe.of_cut (L := L) (lev := lv) b (fun p hp => by rw [Finset.mem_singleton.mp hp, L_tc]; exact Finset.mem_singleton_self _)
    (fun g u hg => by rw [(hO g u hg).1]; exact Finset.mem_singleton_self _)
    (fun p hp => by rw [Finset.mem_singleton.mp hp]; exact hs)
    (fun g u hg => (hO g u hg).2)

omit [FloatOps F] in
theorem mayWait_stage (c : Dev nD) (q : DmaSem sig) (hq : which (.dma q) = none) (O : CellTallies nD τ sig Unit) (hO : O = O₀ c ∨ O = 0) :
    (levAts L lv : sProp 𝕄) ⊢ MayWait (c : Thread nD τ) (.dma q) () O := by
  rcases hO with rfl | rfl
  · refine mayWait_below c _ _ 0 (by unfold lv; rw [hq]) fun g u hg => ?_
    rcases O₀_pos hg with ⟨i, c', rfl⟩ | ⟨c', rfl⟩
    · refine ⟨L_tc _ _, ?_⟩; rw [lv_recv]; split <;> decide
    · refine ⟨L_tc _ _, ?_⟩; rw [lv_bar]; decide
  · rw [MayWait_zero]; iintro -; iempintro

omit [FloatOps F] in
/-- At the barrier a device owes the six copies only. -/
theorem mayWait_bar (c : Dev nD) : (levAts L lv : sProp 𝕄) ⊢ MayWait (c : Thread nD τ) (.reg barS) () (owed 6 c) :=
  mayWait_below c _ _ 1 (le_of_eq (lv_bar c ())) fun g u hg => by
    obtain ⟨j, _, rfl⟩ := owed_pos hg
    refine ⟨L_tc _ _, ?_⟩; rw [lv_recv]; split <;> decide

omit [FloatOps F] in
/-- While it waits for a direct copy a device owes at most the two forwarded ones. -/
theorem mayWait_recv (i : Fin 6) (hi : i.val < 4) (c : Dev nD) (n : ℕ) (hn : n ≤ 2) :
    (levAts L lv : sProp 𝕄) ⊢ MayWait (c : Thread nD τ) (.dma (recvS i)) () (owed n c) :=
  mayWait_below c _ _ 2 (by rw [lv_recv i c, if_pos hi]) fun g u hg => by
    obtain ⟨j, hj, rfl⟩ := owed_pos hg
    refine ⟨L_tc _ _, ?_⟩
    rw [lv_recv, if_neg]; · decide
    rcases (by omega : j = 0 ∨ j = 1) with rfl | rfl <;> decide

end Cert.Moe

end
-- ==== Proof.Steps.lean ====
/-
One lemma per kind of step of the kernel's body: a signal, a wait, a copy, a load of a block.
-/
module

public import proofs.«01_k».proof.Proof.Protocol

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem bigSep_fin2 (Φ : Fin 2 → sProp 𝕄) : bigSep Finset.univ Φ = iprop(Φ 0 ∗ Φ 1) :=
  bigSep_univ_eq_bigSepL [0, 1] (by decide) (by decide) Φ

/-! ## What all the devices know: every cell's invariant, and that every cell is at round 0 -/

def records (K : Dev nD × CK → ℕ) : sProp 𝕄 :=
  iprop((bigSep Finset.univ fun ck : Dev nD × CK => cellInv ER (ringRd m) (K ck) (kcell ck))
    ∗ bigSep Finset.univ fun ck : Dev nD × CK => reached ER (kcell ck) 0)

instance records_persistent (K : Dev nD × CK → ℕ) : BI.Persistent (records m K) := by unfold records; infer_instance

omit [FloatOps F] in
theorem inv_at (K : Dev nD × CK → ℕ) (ck : Dev nD × CK) : records m K ⊢ cellInv ER (ringRd m) (K ck) (kcell ck) := by
  unfold records; iintro ⟨H, -⟩
  have h : (bigSep Finset.univ fun ck : Dev nD × CK => (cellInv ER (ringRd m) (K ck) (kcell ck) : sProp 𝕄)) ⊢ cellInv ER (ringRd m) (K ck) (kcell ck) :=
    bigSep_elim (Finset.mem_univ ck)
  iapply h; iexact H
omit [FloatOps F] in
theorem reached_at (K : Dev nD × CK → ℕ) (ck : Dev nD × CK) : records m K ⊢ reached ER (kcell ck) 0 := by
  unfold records; iintro ⟨-, H⟩
  have h : (bigSep Finset.univ fun ck : Dev nD × CK => (reached ER (kcell ck) 0 : sProp 𝕄)) ⊢ reached ER (kcell ck) 0 :=
    bigSep_elim (Finset.mem_univ ck)
  iapply h; iexact H

/-- What core `c` still owes, whatever it waited for. -/
def owesA (c : Dev nD) (O : CellTallies nD τ sig Unit) : sProp 𝕄 := iprop(∃ W, owes (c : Thread nD τ) O W)

variable (K : Dev nD × CK → ℕ)

/-! ## The steps -/

/-- A signal to a neighbour's barrier cell, paying duty `d` of it. -/
theorem wp_sig (c n n' : Dev nD) (hn : n' = n) (d : Bool) {k' : ℕ} (hk' : 1 = k') (O : CellTallies nD τ sig Unit) {α : Type} {Q : α → sProp 𝕄}
    {k : PUnit → Prog (TpuEff nD τ sig (Elt F) Λ₀ .tc) α} :
    iprop(records m K ∗ owesA c (O + tallyAt (barCell n) () 1) ∗ dutyTok ER (barCell n) 0 d ∗ barPay d n)
      ⊢ iprop((owesA c O -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n' : Thread nD τ) barS k') k) Q) := by
  subst hn hk'
  unfold owesA
  iintro ⟨#HI, ⟨%W, HO⟩, Ht, Hp⟩ Hk
  iapply (Rounds.wp_signal 𝒱₀ ER (ringRd m) (c : Thread nD τ) none (dst := (n' : Thread nD τ)) (κ := K (n', none))
      (d := d) (by rw [duties_bar]; exact Finset.mem_univ _) (amount_bar m n' d) () O rfl) $$ [HO Ht Hp]
  · isplitr; · iapply (inv_at m K (n', none)); iexact HI
    isplitl [HO]; · iexact HO
    isplitl [Ht]; · iexact Ht
    isplitl [Hp]; · rw [payload_cell m none]; unfold pay; iexact Hp
    iapply (reached_at m K (n', none)); iexact HI
  iintro HO
  iapply Hk; iexists W; iexact HO

/-- A wait on one of the core's own cells for all of its round: the payloads come with it, and the cell closes. -/
theorem wp_await (k : CK) (c : Dev nD) {w : TpuEff nD τ sig (Elt F) Λ₀ (c : Thread nD τ).2 PUnit} {k' : ℕ} (O : CellTallies nD τ sig Unit)
    (hw : ∀ K' : PUnit → sProp 𝕄, wpE (defs₀ (F := F)) 𝒱₀ (c : Thread nD τ) none Set.univ w K' = waitSpec (c : Thread nD τ) Set.univ (csem k) k' K')
    (hk' : k' = kamt k) (hmay : (levAts L lv : sProp 𝕄) ⊢ MayWait (c : Thread nD τ) (csem k) () O) {α : Type} {Q : α → sProp 𝕄}
    {kk : PUnit → Prog (TpuEff nD τ sig (Elt F) Λ₀ .tc) α} :
    iprop(records m K ∗ levAts L lv ∗ cred (tallyAt (kcell (c, k)) () (kamt k)) ∗ owesA c O ∗ atPos ER (kcell (c, k)) 0 ∅ 0)
      ⊢ iprop(((owesA c O ∗ semVal (kcell (c, k)) 0 ∗ payAll m k c) -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hk'
  unfold owesA
  iintro ⟨#HI, #Hlev, Hc, ⟨%W, HO⟩, Hat⟩ Hk
  iapply (Rounds.wp_wait_rest_token 𝒱₀ ER (ringRd m) (c : Thread nD τ) none (κ := K (c, k))
      hw (Set.mem_univ _) () (O := O) (W := W) (R := 0) (m := 0) (T := ∅) (by rw [Nat.zero_add]; exact (expect_cell m k c).symm)) $$ [Hc HO Hat]
  · isplitr; · iapply (inv_at m K (c, k)); iexact HI
    isplitl [Hc]; · iexact Hc
    isplitl [HO]; · iexact HO
    isplitr; · iapply hmay; iexact Hlev
    iexact Hat
  iintro ⟨HO, Hat, -, Hpay⟩
  imod (Rounds.cell_close ER (ringRd m) (Set.mem_univ (K (c, k))) (fun h => h) (R := 0 + 1) (duties_later m (kcell (c, k)))) $$ [Hat] with Hz
  · isplitr; · iapply (inv_at m K (c, k)); iexact HI
    iexact Hat
  ihave Hp := (Entails.of_eq (rest_cell m k c)) $$ Hpay
  iapply Hk
  isplitl [HO]; · iexists _; iexact HO
  isplitl [Hz] <;> iassumption

/-- Copy `i`, from `src` holding what the copy is to bring. -/
theorem wp_copy (i : Fin 6) (c n : Dev nD) (hn : n = tgt i c) (src : Memref sig .tc .vmem S256x512 .bf16) (q : PosShare TreeShare)
    (fs : Buf (Elt F) (src.view.loc (c : Thread nD τ))) (O : CellTallies nD τ sig Unit)
    (hread : src.view.read (Elt F) fs = block m i (tgt i c))
    (hback : (src.view.loc (c : Thread nD τ) ↦[src.view.set]{q} fs : sProp 𝕄) ⊢ sendPay m i c)
    {hsc : (slotM i : Memref sig (Dev.tc n : Thread nD τ).2.kind .vmem S256x512 .bf16).view.ref.isScScratch = false}
    {hsrc : src.view.WordExact} {hdst : (slotM i).view.WordExact}
    {hsem : DmaTarget.Typed .vmem (.dma (recvS i)) (.remote (Dev.tc n : Thread nD τ) (slotM i) (.dma (sendS i)) hsc)}
    {α : Type} {Q : α → sProp 𝕄} {k : PUnit → Prog (TpuEff nD τ sig (Elt F) Λ₀ .tc) α} :
    iprop(records m K ∗ (src.view.loc (c : Thread nD τ) ↦[src.view.set]{q} fs) ∗ (∃ f, slotPts i fullShare (tgt i c) f)
        ∗ owesA c (O + owing1 i c) ∗ dutyTok ER (sendCell i c) 0 false ∗ dutyTok ER (recvCell i (tgt i c)) 0 false)
      ⊢ iprop(((cred (tallyAt (sendCell i c) () N) ∗ owesA c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) (slotM i) (.dma (sendS i)) hsc) (.dma (recvS i)) hsrc hdst hsem) k) Q) := by
  subst hn
  unfold owesA
  iintro ⟨#HI, Hs, ⟨%fd, Hd⟩, ⟨%W, HO⟩, Ht1, Ht2⟩ Hk
  unfold slotPts
  iapply (Rounds.wp_send_pointsTo 𝒱₀ ER (ringRd m) (c : Thread nD τ) none (c' := (tgt i c : Thread nD τ)) (src := src) (dst := slotM i) (sS := .dma (sendS i)) (sem := .dma (recvS i)) (q := q) (fs := fs)
    (κ₁ := K (c, some (false, i))) (κ₂ := K (tgt i c, some (true, i)))
    (r₁ := 0) (r₂ := 0) (d₁ := false) (d₂ := false) (fd := fd)
    (by rw [duties_send]; exact Finset.mem_singleton_self _) (by rw [duties_recv]; exact Finset.mem_singleton_self _)
    () () N (slot_credit i) (amount_send m i c false) (amount_recv m i (tgt i c) false) O rfl (W := W)
    (by rw [payload_cell m (some (false, i))]; exact hback)
    (by rw [payload_cell m (some (true, i)), hread]; exact Entails.of_eq (slot_landed m i (tgt i c) fd _ rfl))) $$ [Hs Hd HO Ht1 Ht2]
  · isplitr; · iapply (inv_at m K (c, some (false, i))); iexact HI
    isplitr; · iapply (inv_at m K (tgt i c, some (true, i))); iexact HI
    isplitl [Hs]; · iexact Hs
    isplitl [Hd]; · iexact Hd
    isplitl [HO]; · iexact HO
    isplitl [Ht1]; · iexact Ht1
    isplitr; · iapply (reached_at m K (c, some (false, i))); iexact HI
    isplitl [Ht2]; · iexact Ht2
    iapply (reached_at m K (tgt i c, some (true, i))); iexact HI
  iintro ⟨Hc, HO⟩
  iapply Hk
  isplitl [Hc]; · iexact Hc
  iexists W; iexact HO

/-! ## The landing buffer as its six slots and the rest; the own weights as the two experts and the rest -/

theorem slot_sep : ∀ i j : Fin 6, i ≠ j → ∃ a : Fin 4, soff i a + S1x1x256x512.size a ≤ soff j a ∨ soff j a + S1x1x256x512.size a ≤ soff i a := by decide
theorem exp_sep : ∀ i j : Fin 2, i ≠ j → ∃ a : Fin 3, eoff i a + S1x256x512.size a ≤ eoff j a ∨ eoff j a + S1x256x512.size a ≤ eoff i a := by decide

theorem slot_set (i : Fin 6) : (slotM i).view.set = (slotR i).set :=
  (View.set_reshape _ _).trans (View.set_slice_whole _ _)
theorem exp_set (k : Fin 2) : (expM k).view.set = (expR k).set :=
  (View.set_reshape _ _).trans (View.set_slice_whole _ _)

/-- The elements of a slot, of an expert. -/
abbrev slotI (c : Dev nD) (i : Fin 6) : Finset (Idx (aM.view.loc (c : Thread nD τ))) := (slotM i).view.set
abbrev expI (c : Dev nD) (k : Fin 2) : Finset (Idx (ewM.view.loc (c : Thread nD τ))) := (expM k).view.set

theorem slot_disj (c : Dev nD) (i j : Fin 6) (h : i ≠ j) : Disjoint (slotI c i) (slotI c j) := by
  show Disjoint (slotM i).view.set (slotM j).view.set
  rw [slot_set, slot_set]
  obtain ⟨a, ha⟩ := slot_sep i j h
  exact Rect.unit_disjoint a ha
theorem exp_disj (c : Dev nD) (i j : Fin 2) (h : i ≠ j) : Disjoint (expI c i) (expI c j) := by
  show Disjoint (expM i).view.set (expM j).view.set
  rw [exp_set, exp_set]
  obtain ⟨a, ha⟩ := exp_sep i j h
  exact Rect.unit_disjoint a ha

/-- The elements of the landing buffer outside the six slots: the two blocks no copy writes. -/
def spare (c : Dev nD) : sProp 𝕄 := iprop(∃ f, aM.view.loc (c : Thread nD τ) ↦[Ring.restOf (slotI c)]{fullShare} f)
/-- The elements of the own weights outside the two experts (there are none). -/
def ewRest (c : Dev nD) : sProp 𝕄 := ewM.view.loc (c : Thread nD τ) ↦[Ring.restOf (expI c)]{fullShare} ewstg m c

omit [FloatOps F] in
theorem slots_open (c : Dev nD) (f : Buf (Elt F) (aM.view.loc (c : Thread nD τ))) :
    (aM.view.loc (c : Thread nD τ) ↦{fullShare} f : sProp 𝕄)
      ⊢ iprop((bigSep Finset.univ fun i => iprop(∃ f, slotPts i fullShare c f)) ∗ spare c) := by
  iintro H
  ihave H := (Ring.fam_split_ex (slotI c) (slot_disj c)) $$ [H]
  · iexists f; iexact H
  unfold spare slotPts
  iexact H
omit [FloatOps F] in
theorem slots_close (c : Dev nD) (f₀ : Buf (Elt F) (aM.view.loc (c : Thread nD τ))) :
    iprop((bigSep Finset.univ fun i => iprop(∃ f, slotPts i fullShare c f)) ∗ spare c)
      ⊢ (iprop(∃ f, aM.view.loc (c : Thread nD τ) ↦{fullShare} f) : sProp 𝕄) := by
  unfold spare slotPts
  exact Ring.fam_join (slotI c) (slot_disj c) f₀

omit [FloatOps F] in
theorem experts_eq (c : Dev nD) :
    (ewM.view.loc (c : Thread nD τ) ↦{fullShare} ewstg m c : sProp 𝕄)
      ⊣⊢ iprop((bigSep Finset.univ fun k => expPts m k fullShare c) ∗ ewRest m c) := by
  have h := pointsTo_split_subset (Ix := Unit) (Name := ℕ) (U := UU) (Lvl := ℕ) (q := fullShare) (f := ewstg m c)
    (Finset.subset_univ (Finset.univ.biUnion (expI c)))
  rw [pointsTo_biUnion Finset.univ (expI c) (fun b _ b' _ h => exp_disj c b b' h)] at h
  exact h

omit [FloatOps F] in
/-- An expert in the three shares the two copies and the load read it through. -/
theorem expert_shares (k : Fin 2) (c : Dev nD) :
    expPts m k fullShare c ⊣⊢ iprop(expPts m k fullShare.left c ∗ expPts m k fullShare.right.left c ∗ expPts m k fullShare.right.right c) := by
  unfold expPts
  exact ⟨(pointsTo_share (PosShare.mem_left_op_right _)).1.trans (sep_mono_right (pointsTo_share (PosShare.mem_left_op_right _)).1),
    (sep_mono_right (pointsTo_share (PosShare.mem_left_op_right _)).2).trans (pointsTo_share (PosShare.mem_left_op_right _)).2⟩
omit [FloatOps F] in
theorem slot_shares (i : Fin 6) (c : Dev nD) (f) :
    (slotPts i fullShare c f : sProp 𝕄) ⊣⊢ iprop(slotPts i fullShare.left c f ∗ slotPts i fullShare.right c f) := by
  unfold slotPts
  exact pointsTo_share (PosShare.mem_left_op_right _)

/-! ## Loads -/

/-- What a load of copy `i`'s slot reads, at contents `f`. -/
abbrev slotVal (i : Fin 6) (c : Dev nD) : Vec F S1x1x256x512 .bf16 := aM.view.readAt (Elt F) (slotR i).toLoadRect (landed m i c)
abbrev expVal (k : Fin 2) (c : Dev nD) : Vec F S1x256x512 .bf16 := ewM.view.readAt (Elt F) (expR k).toLoadRect (ewstg m c)

theorem wp_load_slot (i : Fin 6) (c : Dev nD) (q : PosShare TreeShare) {hl : aM.view.LoadsAt (slotR i).toLoadRect}
    {α : Type} {Q : α → sProp 𝕄} {k : Vec F S1x1x256x512 .bf16 → Prog (TpuEff nD τ sig (Elt F) Λ₀ .tc) α} :
    slotPts i q c (landed m i c)
      ⊢ iprop((slotPts i q c (landed m i c) -∗ wp frame (wpE (defs₀ (F := F)) 𝒱₀ (c : Thread nD τ) none) Set.univ (k (slotVal m i c)) Q)
          -∗ wp frame (wpE (defs₀ (F := F)) 𝒱₀ (c : Thread nD τ) none) Set.univ (.op (.load aM (slotR i).toLoadRect hl) k) Q) := by
  unfold slotPts
  exact wp_load 𝒱₀ (c : Thread nD τ) none Set.univ (m := aM) (r := (slotR i).toLoadRect)
    ((le_of_eq (View.set_slice _ _).symm).trans (le_of_eq (View.set_reshape _ _).symm))

theorem wp_load_exp (e : Fin 2) (c : Dev nD) (q : PosShare TreeShare) {hl : ewM.view.LoadsAt (expR e).toLoadRect}
    {α : Type} {Q : α → sProp 𝕄} {k : Vec F S1x256x512 .bf16 → Prog (TpuEff nD τ sig (Elt F) Λ₀ .tc) α} :
    expPts m e q c
      ⊢ iprop((expPts m e q c -∗ wp frame (wpE (defs₀ (F := F)) 𝒱₀ (c : Thread nD τ) none) Set.univ (k (expVal m e c)) Q)
          -∗ wp frame (wpE (defs₀ (F := F)) 𝒱₀ (c : Thread nD τ) none) Set.univ (.op (.load ewM (expR e).toLoadRect hl) k) Q) := by
  unfold expPts
  exact wp_load 𝒱₀ (c : Thread nD τ) none Set.univ (m := ewM) (r := (expR e).toLoadRect)
    ((le_of_eq (View.set_slice _ _).symm).trans (le_of_eq (View.set_reshape _ _).symm))

end Cert.Moe

end
-- ==== Proof.Body.lean ====
/-
The body of the kernel on one device, executed step by step, and the pipeline library's obligation for it.
-/
module

public import proofs.«01_k».proof.Proof.Steps

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the kernel computes -/

/-- The kernel's result from what it loads: `w2`, `w5`, `w7` its own, its left and its right neighbour's number, `s0` to
    `s5` the blocks the copies bring. -/
def outOf (w2 w5 w7 : BitVec 32) (x : Vec F S512x256 .bf16) (rw : Vec F S256x8 .bf16) (i0 i1 : Vec F S512x1 .i32)
    (e0 e1 : Vec F S1x256x512 .bf16) (s0 s1 s2 s3 s4 s5 : Vec F S1x1x256x512 .bf16) : FVec F S512x512 .bf16 :=
  let lane : IVec S512x8 32 := iota .tc S512x8 32 [1] iota_S512x8_d1_w32
  let w : FVec F S512x8 .f32 := k0_pay3 x rw i0 i1
  let w6 : BitVec 32 := Scalar.remsi (Scalar.addi w2 2#32) 4#32
  let a1 := k0_pay13 (k0_pay5 (k0_pay2 x) lane w (Scalar.muli w2 2#32)) e1
  let a2 := k0_pay14 (k0_pay6 w5 (k0_pay2 x) lane w) (k0_pay12 (k0_pay4 w2 x rw i0 i1) e0) a1 s0
  let a3 := k0_pay15 (k0_pay11 w7 (k0_pay2 x) lane w) a2 s1
  let a5 := k0_pay16 (k0_pay7 w5 (k0_pay2 x) lane w) (k0_pay10 w7 (k0_pay2 x) lane w) a3 s2 s3
  k0_pay1 (k0_pay17 (k0_pay8 (k0_pay2 x) lane w w6) (k0_pay9 (k0_pay2 x) lane w (Scalar.muli w6 2#32)) a5 s4 s5)

/-- The device's number as the kernel computes it, and its neighbours'. -/
abbrev word (c : Dev nD) : BitVec 32 := Scalar.remsi (Scalar.divsi (Dev.word c) 1#32) 4#32
abbrev wordL (c : Dev nD) : BitVec 32 := Scalar.remsi (Scalar.subi (Scalar.addi (word c) 4#32) 1#32) 4#32
abbrev wordR (c : Dev nD) : BitVec 32 := Scalar.remsi (Scalar.addi (word c) 1#32) 4#32

abbrev xR : Rect S512x256 := Rect.unit (s := S512x256) ![0, 0] S512x256.size inb_S512x256_S512x256_0_0
abbrev rwR : Rect S256x8 := Rect.unit (s := S256x8) ![0, 0] S256x8.size inb_S256x8_S256x8_0_0
abbrev i0R : Rect S512x2 := Rect.unit (s := S512x2) ![0, 0] S512x1.size inb_S512x2_S512x1_0_0
abbrev i1R : Rect S512x2 := Rect.unit (s := S512x2) ![0, 1] S512x1.size inb_S512x2_S512x1_0_1
abbrev oR : Rect S512x512 := Rect.unit (s := S512x512) ![0, 0] S512x512.size inb_S512x512_S512x512_0_0

def outAt (c : Dev nD) : (cc0_stg4_0 : Ref sig .tc).ty.Contents (Elt F) :=
  outOf (word c) (wordL c) (wordR c) (xM.view.readAt (Elt F) xR.toLoadRect (xstg m c)) (rwM.view.readAt (Elt F) rwR.toLoadRect (rwstg m c))
    (idM.view.readAt (Elt F) i0R.toLoadRect (idstg m c)) (idM.view.readAt (Elt F) i1R.toLoadRect (idstg m c))
    (expVal m 0 c) (expVal m 1 c) (slotVal m 0 c) (slotVal m 1 c) (slotVal m 2 c) (slotVal m 3 c) (slotVal m 4 c) (slotVal m 5 c)

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c` alone holds of the cells: its positions at its own cells, and the tokens of the duties it pays. -/
def linear (c : Dev nD) : sProp 𝕄 :=
  iprop((atPos ER (barCell c) 0 ∅ 0 ∗ (bigSep Finset.univ fun i => atPos ER (sendCell i c) 0 ∅ 0) ∗ bigSep Finset.univ fun i => atPos ER (recvCell i c) 0 ∅ 0)
    ∗ dutyTok ER (barCell (prv c)) 0 true ∗ dutyTok ER (barCell (nxt c)) 0 false
    ∗ (bigSep Finset.univ fun i => dutyTok ER (sendCell i c) 0 false) ∗ bigSep Finset.univ fun i => dutyTok ER (recvCell i (tgt i c)) 0 false)

/-- The credit its waits on cells that others raise take. -/
def credits (c : Dev nD) : sProp 𝕄 :=
  iprop(cred (tallyAt (barCell c) () 2) ∗ bigSep Finset.univ fun i => cred (tallyAt (recvCell i c) () N))

def start (c : Dev nD) : sProp 𝕄 := iprop((∃ K, records m K ∗ linear c) ∗ credits c ∗ levAts L lv)
def Φ₀ (c : Dev nD) : sProp 𝕄 := iprop(start m c ∗ ∃ f, aM.view.loc (c : Thread nD τ) ↦{fullShare} f)
/-- At the end: the landing buffer whole again and every cell's counter at zero. -/
def Φ₁ (c : Dev nD) : sProp 𝕄 :=
  iprop((∃ f, aM.view.loc (c : Thread nD τ) ↦{fullShare} f) ∗ (bigSep Finset.univ fun i => semVal (sendCell i c) 0)
    ∗ (bigSep Finset.univ fun i => semVal (recvCell i c) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => rwstg m c
    | ⟨2, _⟩ => idstg m c
    | ⟨3, _⟩ => ewstg m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

theorem fetch_in (w : Fin 5) (hw : w.val < 4) (t : Fin cfg0.N) : (cfg0.win w).fetch t = true := by
  rw [fin_N t]; fin_cases w <;> first | rfl | exact absurd hw (by decide)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, held c cc0_stg0_0 ((dats m ρ 0 c).before (0 : Fin 5) t₀ d)) ∗ (∃ d, held c cc0_stg1_0 ((dats m ρ 0 c).before (1 : Fin 5) t₀ d))
    ∗ (∃ d, held c cc0_stg2_0 ((dats m ρ 0 c).before (2 : Fin 5) t₀ d)) ∗ (∃ d, held c cc0_stg3_0 ((dats m ρ 0 c).before (3 : Fin 5) t₀ d))
    ∗ (∃ d, held c cc0_stg4_0 ((dats m ρ 0 c).before (4 : Fin 5) t₀ d)))

def bodyPost (c : Dev nD) : sProp 𝕄 :=
  iprop(Φ₁ c ∗ (dats m ρ 0 c).owesAt () t₀.succ ∗ held c cc0_stg0_0 (xstg m c) ∗ held c cc0_stg1_0 (rwstg m c) ∗ held c cc0_stg2_0 (idstg m c)
    ∗ held c cc0_stg3_0 (ewstg m c) ∗ held c cc0_stg4_0 (outAt m c))

omit [FloatOps F] in
theorem hz : (![0, 0] : Fin 2 → Nat) = fun _ => 0 := funext fun a => by fin_cases a <;> rfl
omit [FloatOps F] in
theorem write_out (f w : (cc0_stg4_0 : Ref sig .tc).ty.Contents (Elt F)) :
    ((oM : Memref sig .tc .vmem S512x512 .bf16).access oR : View sig .tc _ _ _).write (Elt F) f w Finset.univ = w :=
  Memref.write_access_unit_zero_univ (Elt F) cc0_stg4_0 hz _ f w

/-- What each copy reads is what it is to bring. -/
theorem reads (c : Dev nD) : expert m 0 c = block m 0 (nxt c) ∧ expert m 1 c = block m 1 (prv c) ∧ expert m 1 c = block m 2 (nxt c)
    ∧ expert m 0 c = block m 3 (prv c) ∧ block m 0 c = block m 4 (nxt c) ∧ block m 1 c = block m 5 (prv c) := by
  refine ⟨?_, ?_, ?_, ?_, ?_, ?_⟩ <;> simp only [block, prv_nxt, nxt_prv]

omit [FloatOps F] in
theorem slots_open' (c : Dev nD) (f : Buf (Elt F) (aM.view.loc (c : Thread nD τ))) :
    (aM.view.loc (c : Thread nD τ) ↦{fullShare} f : sProp 𝕄)
      ⊢ iprop(((∃ f, slotPts 0 fullShare c f) ∗ (∃ f, slotPts 1 fullShare c f) ∗ (∃ f, slotPts 2 fullShare c f) ∗ (∃ f, slotPts 3 fullShare c f)
          ∗ (∃ f, slotPts 4 fullShare c f) ∗ ∃ f, slotPts 5 fullShare c f) ∗ spare c) := by
  have h := slots_open c f
  rw [bigSep_fin6] at h
  exact h

omit [FloatOps F] in
theorem experts_open (c : Dev nD) :
    (ewM.view.loc (c : Thread nD τ) ↦{fullShare} ewstg m c : sProp 𝕄)
      ⊣⊢ iprop(((expPts m 0 fullShare.left c ∗ expPts m 0 fullShare.right.left c ∗ expPts m 0 fullShare.right.right c)
        ∗ (expPts m 1 fullShare.left c ∗ expPts m 1 fullShare.right.left c ∗ expPts m 1 fullShare.right.right c)) ∗ ewRest m c) := by
  have h := experts_eq m c
  rw [bigSep_fin2] at h
  exact ⟨h.1.trans (sep_mono_left (BIClass.sep_mono (expert_shares m 0 c).1 (expert_shares m 1 c).1)),
    (sep_mono_left (BIClass.sep_mono (expert_shares m 0 c).2 (expert_shares m 1 c).2)).trans h.2⟩

omit [FloatOps F] in
theorem mayWait_done (c : Dev nD) (s : SemLoc sig) : (levAts L lv : sProp 𝕄) ⊢ MayWait (c : Thread nD τ) s () (owed 0 c) := by
  rw [show owed 0 c = 0 from rfl, MayWait_zero]; iintro -; iempintro

theorem exp_credit (k : Fin 2) : (expM k).view.dmaCredit = N := by fin_cases k <;> rfl

set_option maxHeartbeats 3200000 in
/-- The body from its precondition to its postcondition, one lemma per step in the order of the program. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret, wp_deviceId]
  simp only [dev1_eq c, dev2_eq c]
  unfold bodyPre Φ₀ start linear credits
  simp only [bigSep_fin6]
  iintro ⟨⟨⟨⟨⟨%K, #HI, ⟨HatB, ⟨HaS0, HaS1, HaS2, HaS3, HaS4, HaS5⟩, HaR0, HaR1, HaR2, HaR3, HaR4, HaR5⟩, HtP, HtN,
      ⟨HtS0, HtS1, HtS2, HtS3, HtS4, HtS5⟩, HtR0, HtR1, HtR2, HtR3, HtR4, HtR5⟩, ⟨HcB, HcR0, HcR1, HcR2, HcR3, HcR4, HcR5⟩, #Hlev⟩, ⟨%f0, Hscr⟩⟩,
    Ho, ⟨%d0, %g0, %hg0, Hx⟩, ⟨%d1, %g1, %hg1, Hrw⟩, ⟨%d2, %g2, %hg2, Hid⟩, ⟨%d3, %g3, %hg3, Hew⟩, ⟨%d4, %g4, %hg4, Hout⟩⟩, Hk⟩
  have hx : g0 = xstg m c := by rw [hg0]; unfold Dat.before; rw [if_pos (fetch_in 0 (by decide) t₀)]; rfl
  have hrw : g1 = rwstg m c := by rw [hg1]; unfold Dat.before; rw [if_pos (fetch_in 1 (by decide) t₀)]; rfl
  have hid : g2 = idstg m c := by rw [hg2]; unfold Dat.before; rw [if_pos (fetch_in 2 (by decide) t₀)]; rfl
  have hew : g3 = ewstg m c := by rw [hg3]; unfold Dat.before; rw [if_pos (fetch_in 3 (by decide) t₀)]; rfl
  subst hx hrw hid hew
  unfold Dat.owesAt Pipeline.owesWithin
  icases Ho with ⟨%W, %hW, HO⟩
  rw [show (dats m ρ 0 c).owed t₀.castSucc = O₀ c from rfl]
  ihave HO := (show (owes (c : Thread nD τ) (O₀ c) W : sProp 𝕄) ⊢ owesA c (O₀ c) from by unfold owesA; iintro H; iexists W; iexact H) $$ HO
  ihave Hs := (slots_open' c f0) $$ Hscr
  icases Hs with ⟨⟨S0, S1, S2, S3, S4, S5⟩, Hspare⟩
  ihave He := (experts_open m c).1 $$ Hew
  icases He with ⟨⟨⟨E0a, E0b, E0c⟩, E1a, E1b, E1c⟩, Herest⟩
  obtain ⟨hr0, hr1, hr2, hr3, hr4, hr5⟩ := reads m c
  -- both neighbours learn that the slots they write are free
  iapply (wp_sig m K c (prv c) _ rfl true (by decide) (O₁ c)) $$ [HO HtP S0 S2 S4]
  · isplitr; · iexact HI
    isplitl [HO]; · iexact HO
    isplitl [HtP]; · iexact HtP
    unfold barPay; rw [nxt_prv]
    isplitl [S0]; · iexact S0
    isplitl [S2] <;> iassumption
  iintro HO
  iapply (wp_sig m K c (nxt c) _ rfl false (by decide) (owed 6 c)) $$ [HO HtN S1 S3 S5]
  · isplitr; · iexact HI
    isplitl [HO]; · iexact HO
    isplitl [HtN]; · iexact HtN
    unfold barPay; rw [prv_nxt]
    isplitl [S1]; · iexact S1
    isplitl [S3] <;> iassumption
  iintro HO
  iapply (wp_await m K none c (owed 6 c) (wpE_semWait_eq 𝒱₀ (c : Thread nD τ) none Set.univ) (by decide) (mayWait_bar c)) $$ [HcB HO HatB]
  · isplitr; · iexact HI
    isplitr; · iexact Hlev
    isplitl [HcB]; · iexact HcB
    isplitl [HO] <;> iassumption
  iintro ⟨HO, HzB, Hpay⟩
  unfold payAll barPay
  icases Hpay with ⟨⟨P1, P3, P5⟩, P0, P2, P4⟩
  -- the four direct copies
  iapply (wp_copy m K 0 c _ (dev3_eq c) (expM 0) fullShare.left (ewstg m c) (owed 5 c) hr0 (Entails.refl _)) $$ [E0a P0 HO HtS0 HtR0]
  · isplitr; · iexact HI
    isplitl [E0a]; · unfold expPts; iexact E0a
    isplitl [P0]; · iexact P0
    isplitl [HO]; · iexact HO
    isplitl [HtS0] <;> iassumption
  iintro ⟨HcS0, HO⟩
  iapply (wp_copy m K 1 c _ (dev4_eq c) (expM 1) fullShare.left (ewstg m c) (owed 4 c) hr1 (Entails.refl _)) $$ [E1a P1 HO HtS1 HtR1]
  · isplitr; · iexact HI
    isplitl [E1a]; · unfold expPts; iexact E1a
    isplitl [P1]; · iexact P1
    isplitl [HO]; · iexact HO
    isplitl [HtS1] <;> iassumption
  iintro ⟨HcS1, HO⟩
  iapply (wp_copy m K 2 c _ (dev5_eq c) (expM 1) fullShare.right.left (ewstg m c) (owed 3 c) hr2 (Entails.refl _)) $$ [E1b P2 HO HtS2 HtR2]
  · isplitr; · iexact HI
    isplitl [E1b]; · unfold expPts; iexact E1b
    isplitl [P2]; · iexact P2
    isplitl [HO]; · iexact HO
    isplitl [HtS2] <;> iassumption
  iintro ⟨HcS2, HO⟩
  iapply (wp_copy m K 3 c _ (dev6_eq c) (expM 0) fullShare.right.left (ewstg m c) (owed 2 c) hr3 (Entails.refl _)) $$ [E0b P3 HO HtS3 HtR3]
  · isplitr; · iexact HI
    isplitl [E0b]; · unfold expPts; iexact E0b
    isplitl [P3]; · iexact P3
    isplitl [HO]; · iexact HO
    isplitl [HtS3] <;> iassumption
  iintro ⟨HcS3, HO⟩
  -- the router's gates, and the own experts' products
  iapply (wp_load 𝒱₀ (c : Thread nD τ) none Set.univ (m := xM) (Finset.subset_univ _)) $$ Hx; iintro Hx
  iapply (wp_load 𝒱₀ (c : Thread nD τ) none Set.univ (m := rwM) (Finset.subset_univ _)) $$ Hrw; iintro Hrw
  iapply (wp_load 𝒱₀ (c : Thread nD τ) none Set.univ (m := idM) (Finset.subset_univ _)) $$ Hid; iintro Hid
  iapply (wp_load 𝒱₀ (c : Thread nD τ) none Set.univ (m := idM) (Finset.subset_univ _)) $$ Hid; iintro Hid
  generalize hv1 : xM.view.readAt (Elt F) xR.toLoadRect (xstg m c) = v1
  generalize hv2 : rwM.view.readAt (Elt F) rwR.toLoadRect (rwstg m c) = v2
  generalize hv3 : idM.view.readAt (Elt F) i0R.toLoadRect (idstg m c) = v3
  generalize hv4 : idM.view.readAt (Elt F) i1R.toLoadRect (idstg m c) = v4
  generalize hv5 : k0_pay3 v1 v2 v3 v4 = v5
  generalize hv6 : k0_pay2 v1 = v6
  iapply (wp_load_exp m 0 c _) $$ E0c; iintro E0c
  iapply (wp_load_exp m 1 c _) $$ E1c; iintro E1c
  -- each block as it comes in; the first two are forwarded
  iapply (wp_await m K (some (true, 0)) c (owed 2 c) (wpE_waitDma2_eq 𝒱₀ (c : Thread nD τ) none Set.univ) (slot_credit 0) (mayWait_recv 0 (by decide) c 2 (by decide))) $$ [HcR0 HO HaR0]
  · isplitr; · iexact HI
    isplitr; · iexact Hlev
    isplitl [HcR0]; · iexact HcR0
    isplitl [HO] <;> iassumption
  iintro ⟨HO, HzR0, DR0⟩
  unfold payAll recvPay
  ihave DR0 := (slot_shares 0 c (landed m 0 c)).1 $$ DR0
  icases DR0 with ⟨DR0a, DR0⟩
  iapply (wp_copy m K 4 c _ (dev7_eq c) (slotM 0) fullShare.left (landed m 0 c) (owed 1 c) ((read_landed m 0 c).trans hr4) (Entails.refl _)) $$ [DR0a P4 HO HtS4 HtR4]
  · isplitr; · iexact HI
    isplitl [DR0a]; · unfold slotPts; iexact DR0a
    isplitl [P4]; · iexact P4
    isplitl [HO]; · iexact HO
    isplitl [HtS4] <;> iassumption
  iintro ⟨HcS4, HO⟩
  iapply (wp_load_slot m 0 c _) $$ DR0; iintro DR0
  iapply (wp_await m K (some (true, 1)) c (owed 1 c) (wpE_waitDma2_eq 𝒱₀ (c : Thread nD τ) none Set.univ) (slot_credit 1) (mayWait_recv 1 (by decide) c 1 (by decide))) $$ [HcR1 HO HaR1]
  · isplitr; · iexact HI
    isplitr; · iexact Hlev
    isplitl [HcR1]; · iexact HcR1
    isplitl [HO] <;> iassumption
  iintro ⟨HO, HzR1, DR1⟩
  unfold payAll recvPay
  ihave DR1 := (slot_shares 1 c (landed m 1 c)).1 $$ DR1
  icases DR1 with ⟨DR1a, DR1⟩
  iapply (wp_copy m K 5 c _ (dev8_eq c) (slotM 1) fullShare.left (landed m 1 c) (owed 0 c) ((read_landed m 1 c).trans hr5) (Entails.refl _)) $$ [DR1a P5 HO HtS5 HtR5]
  · isplitr; · iexact HI
    isplitl [DR1a]; · unfold slotPts; iexact DR1a
    isplitl [P5]; · iexact P5
    isplitl [HO]; · iexact HO
    isplitl [HtS5] <;> iassumption
  iintro ⟨HcS5, HO⟩
  iapply (wp_load_slot m 1 c _) $$ DR1; iintro DR1
  iapply (wp_await m K (some (true, 2)) c (owed 0 c) (wpE_waitDma2_eq 𝒱₀ (c : Thread nD τ) none Set.univ) (slot_credit 2) (mayWait_done c _)) $$ [HcR2 HO HaR2]
  · isplitr; · iexact HI
    isplitr; · iexact Hlev
    isplitl [HcR2]; · iexact HcR2
    isplitl [HO] <;> iassumption
  iintro ⟨HO, HzR2, DR2⟩
  unfold payAll recvPay
  iapply (wp_load_slot m 2 c _) $$ DR2; iintro DR2
  iapply (wp_await m K (some (true, 3)) c (owed 0 c) (wpE_waitDma2_eq 𝒱₀ (c : Thread nD τ) none Set.univ) (slot_credit 3) (mayWait_done c _)) $$ [HcR3 HO HaR3]
  · isplitr; · iexact HI
    isplitr; · iexact Hlev
    isplitl [HcR3]; · iexact HcR3
    isplitl [HO] <;> iassumption
  iintro ⟨HO, HzR3, DR3⟩
  unfold payAll recvPay
  iapply (wp_load_slot m 3 c _) $$ DR3; iintro DR3
  iapply (wp_await m K (some (true, 4)) c (owed 0 c) (wpE_waitDma2_eq 𝒱₀ (c : Thread nD τ) none Set.univ) (slot_credit 4) (mayWait_done c _)) $$ [HcR4 HO HaR4]
  · isplitr; · iexact HI
    isplitr; · iexact Hlev
    isplitl [HcR4]; · iexact HcR4
    isplitl [HO] <;> iassumption
  iintro ⟨HO, HzR4, DR4⟩
  unfold payAll recvPay
  iapply (wp_load_slot m 4 c _) $$ DR4; iintro DR4
  iapply (wp_await m K (some (true, 5)) c (owed 0 c) (wpE_waitDma2_eq 𝒱₀ (c : Thread nD τ) none Set.univ) (slot_credit 5) (mayWait_done c _)) $$ [HcR5 HO HaR5]
  · isplitr; · iexact HI
    isplitr; · iexact Hlev
    isplitl [HcR5]; · iexact HcR5
    isplitl [HO] <;> iassumption
  iintro ⟨HO, HzR5, DR5⟩
  unfold payAll recvPay
  iapply (wp_load_slot m 5 c _) $$ DR5; iintro DR5
  -- the sources back
  iapply (wp_await m K (some (false, 0)) c (owed 0 c) (wpE_waitDma2_eq 𝒱₀ (c : Thread nD τ) none Set.univ) (exp_credit 0) (mayWait_done c _)) $$ [HcS0 HO HaS0]
  · isplitr; · iexact HI
    isplitr; · iexact Hlev
    isplitl [HcS0]; · iexact HcS0
    isplitl [HO] <;> iassumption
  iintro ⟨HO, HzS0, DS0⟩
  iapply (wp_await m K (some (false, 1)) c (owed 0 c) (wpE_waitDma2_eq 𝒱₀ (c : Thread nD τ) none Set.univ) (exp_credit 1) (mayWait_done c _)) $$ [HcS1 HO HaS1]
  · isplitr; · iexact HI
    isplitr; · iexact Hlev
    isplitl [HcS1]; · iexact HcS1
    isplitl [HO] <;> iassumption
  iintro ⟨HO, HzS1, DS1⟩
  iapply (wp_await m K (some (false, 2)) c (owed 0 c) (wpE_waitDma2_eq 𝒱₀ (c : Thread nD τ) none Set.univ) (exp_credit 1) (mayWait_done c _)) $$ [HcS2 HO HaS2]
  · isplitr; · iexact HI
    isplitr; · iexact Hlev
    isplitl [HcS2]; · iexact HcS2
    isplitl [HO] <;> iassumption
  iintro ⟨HO, HzS2, DS2⟩
  iapply (wp_await m K (some (false, 3)) c (owed 0 c) (wpE_waitDma2_eq 𝒱₀ (c : Thread nD τ) none Set.univ) (exp_credit 0) (mayWait_done c _)) $$ [HcS3 HO HaS3]
  · isplitr; · iexact HI
    isplitr; · iexact Hlev
    isplitl [HcS3]; · iexact HcS3
    isplitl [HO] <;> iassumption
  iintro ⟨HO, HzS3, DS3⟩
  iapply (wp_await m K (some (false, 4)) c (owed 0 c) (wpE_waitDma2_eq 𝒱₀ (c : Thread nD τ) none Set.univ) (slot_credit 0) (mayWait_done c _)) $$ [HcS4 HO HaS4]
  · isplitr; · iexact HI
    isplitr; · iexact Hlev
    isplitl [HcS4]; · iexact HcS4
    isplitl [HO] <;> iassumption
  iintro ⟨HO, HzS4, DS4⟩
  iapply (wp_await m K (some (false, 5)) c (owed 0 c) (wpE_waitDma2_eq 𝒱₀ (c : Thread nD τ) none Set.univ) (slot_credit 1) (mayWait_done c _)) $$ [HcS5 HO HaS5]
  · isplitr; · iexact HI
    isplitr; · iexact Hlev
    isplitl [HcS5]; · iexact HcS5
    isplitl [HO] <;> iassumption
  iintro ⟨HO, HzS5, DS5⟩
  unfold payAll sendPay
  -- the result
  iapply (wp_load 𝒱₀ (c : Thread nD τ) none Set.univ (m := oM) (Finset.subset_univ _)) $$ Hout; iintro Hout
  iapply (wp_store 𝒱₀ (c : Thread nD τ) none Set.univ (m := oM) (r := oR) (Mk := Finset.univ) (Finset.subset_univ _)) $$ Hout; iintro Hout
  subst hv6 hv5 hv4 hv3 hv2 hv1
  rw [write_out, wp_ret]; imodintro
  iapply Hk
  ihave DR0 := (slot_shares 0 c (landed m 0 c)).2 $$ [DS4 DR0]
  · isplitl [DS4] <;> iassumption
  ihave DR1 := (slot_shares 1 c (landed m 1 c)).2 $$ [DS5 DR1]
  · isplitl [DS5] <;> iassumption
  unfold bodyPost Dat.owesAt Pipeline.owesWithin
  rw [show (dats m ρ 0 c).owed t₀.succ = owed 0 c from rfl]
  isplitl [DR0 DR1 DR2 DR3 DR4 DR5 Hspare HzS0 HzS1 HzS2 HzS3 HzS4 HzS5 HzR0 HzR1 HzR2 HzR3 HzR4 HzR5 HzB]
  · unfold Φ₁
    isplitl [DR0 DR1 DR2 DR3 DR4 DR5 Hspare]
    · iapply (slots_close c (landed m 0 c))
      isplitr [Hspare]
      · rw [bigSep_fin6]
        isplitl [DR0]; · iexists _; iexact DR0
        isplitl [DR1]; · iexists _; iexact DR1
        isplitl [DR2]; · iexists _; iexact DR2
        isplitl [DR3]; · iexists _; iexact DR3
        isplitl [DR4]; · iexists _; iexact DR4
        iexists _; iexact DR5
      iexact Hspare
    isplitl [HzS0 HzS1 HzS2 HzS3 HzS4 HzS5]
    · rw [bigSep_fin6]
      isplitl [HzS0]; · iexact HzS0
      isplitl [HzS1]; · iexact HzS1
      isplitl [HzS2]; · iexact HzS2
      isplitl [HzS3]; · iexact HzS3
      isplitl [HzS4] <;> iassumption
    isplitr [HzB]
    · rw [bigSep_fin6]
      isplitl [HzR0]; · iexact HzR0
      isplitl [HzR1]; · iexact HzR1
      isplitl [HzR2]; · iexact HzR2
      isplitl [HzR3]; · iexact HzR3
      isplitl [HzR4] <;> iassumption
    iexact HzB
  unfold owesA
  icases HO with ⟨%W', HO⟩
  isplitl [HO]
  · iexists W'
    isplitr; · ipureintro; exact fun _ _ => Or.inl trivial
    iexact HO
  isplitl [Hx]
  · iexists _; isplitr; · (ipureintro; rfl)
    iexact Hx
  isplitl [Hrw]
  · iexists _; isplitr; · (ipureintro; rfl)
    iexact Hrw
  isplitl [Hid]
  · iexists _; isplitr; · (ipureintro; rfl)
    iexact Hid
  isplitr [Hout]
  · iexists _; isplitr; · (ipureintro; rfl)
    iapply (experts_open m c).2
    isplitr [Herest]
    · isplitl [DS0 DS3 E0c]
      · isplitl [DS0]; · iexact DS0
        isplitl [DS3] <;> iassumption
      isplitl [DS1]; · iexact DS1
      isplitl [DS2] <;> iassumption
    iexact Herest
  iexists _; isplitr; · (ipureintro; rfl)
  iexact Hout

/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _)
      (Memref.whole cc0_scratch0) (Memref.isWhole_whole _) cc0_scratch1 cc0_scratch2) (fun _ => bodyPost m ρ c)
  iintro H
  iapply (sound_body m ρ c fun _ => bodyPost m ρ c)
  isplitl [H]; · iexact H
  iintro H; iexact H

end Cert.Moe

end
-- ==== Proof.Launch.lean ====
/-
The launch: the cells' invariants and tokens dealt out to the devices, and the run of the whole kernel.
-/
module

public import proofs.«01_k».proof.Proof.Body
public import Idealize.ShloMosaic.Lib.Pipeline.CollectiveSegs

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## Cells and tokens -/

theorem kcell_injective : Function.Injective (kcell : Dev nD × CK → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_injective h2]

def ringCells : Finset (GSem nD τ sig) := Finset.univ.map ⟨kcell, kcell_injective⟩

/-- A token per cell and duty; those of no duty are dropped. -/
abbrev tokOf (ckd : (Dev nD × CK) × Bool) : GSem nD τ sig × ℕ × Bool := (kcell ckd.1, 0, ckd.2)
theorem tokOf_injective : Function.Injective (tokOf : (Dev nD × CK) × Bool → GSem nD τ sig × ℕ × Bool) := by
  rintro ⟨ck, d⟩ ⟨ck', d'⟩ h
  have h1 : ck = ck' := kcell_injective (congrArg Prod.fst h)
  have h2 : d = d' := congrArg (fun x : GSem nD τ sig × ℕ × Bool => x.2.2) h
  rw [h1, h2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

omit [FloatOps F] in
/-- Over a device's cells: the barrier's, the send cells', the receive cells'. -/
theorem bigSep_CK (Φ : CK → sProp 𝕄) :
    bigSep Finset.univ Φ = iprop(Φ none ∗ (bigSep Finset.univ fun i : Fin 6 => Φ (some (false, i))) ∗ bigSep Finset.univ fun i : Fin 6 => Φ (some (true, i))) := by
  have h : (Finset.univ : Finset CK) = insert none (Finset.univ.map ⟨some, Option.some_injective _⟩) := by decide
  rw [h, bigSep_insert (by decide), bigSep_map, bigSep_univ_prod,
    bigSep_univ_eq_bigSepL [false, true] (by decide) (by decide), bigSepL_cons_cons, bigSepL_singleton]
  rfl

/-- The duty tokens of device `c`'s own cells. -/
def toks (c : Dev nD) : sProp 𝕄 :=
  iprop(dutyTok ER (barCell c) 0 true ∗ dutyTok ER (barCell c) 0 false
    ∗ (bigSep Finset.univ fun i => dutyTok ER (sendCell i c) 0 false) ∗ bigSep Finset.univ fun i => dutyTok ER (recvCell i c) 0 false)

omit [FloatOps F] in
theorem toks_intro (c : Dev nD) :
    (bigSep Finset.univ fun k : CK => bigSep Finset.univ fun d : Bool => dutyTok ER (kcell (c, k)) 0 d : sProp 𝕄) ⊢ toks c := by
  have hb (k : CK) : (bigSep Finset.univ fun d : Bool => dutyTok ER (kcell (c, k)) 0 d : sProp 𝕄)
      = iprop(dutyTok ER (kcell (c, k)) 0 true ∗ dutyTok ER (kcell (c, k)) 0 false) := by
    rw [bigSep_univ_eq_bigSepL [true, false] (by decide) (by decide), bigSepL_cons_cons, bigSepL_singleton]
    rfl
  rw [bigSep_congr fun k _ => hb k, bigSep_sep', bigSep_CK, bigSep_CK]
  unfold toks
  iintro ⟨⟨HT, -, -⟩, HF, HS, HR⟩
  isplitl [HT]; · iexact HT
  isplitl [HF]; · iexact HF
  isplitl [HS] <;> iassumption

/-- What the launch element deals device `c`. -/
def G (c : Dev nD) : sProp 𝕄 :=
  iprop((bigSep Finset.univ fun k : CK => roundState ER (ringRd m) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, records m K ∗ linear c)

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod, bigSep_univ_prod]
    exact bigSep_mono fun c _ => toks_intro c
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

omit [FloatOps F] in
/-- The kernel's own semaphores are the send and receive cells; -/
theorem ownSems0_eq (c : Dev nD) : (Pipeline.ownSems0 (Ix := Unit) (Name := ℕ) (U := UU) (Lvl := ℕ) (Val := Elt F) (τ := τ) osem c : sProp 𝕄)
    = iprop((bigSep Finset.univ fun i => semVal (sendCell i c) 0) ∗ bigSep Finset.univ fun i => semVal (recvCell i c) 0) := by
  unfold Pipeline.ownSems0
  rw [bigSep_univ_prod, bigSep_univ_eq_bigSepL [false, true] (by decide) (by decide), bigSepL_cons_cons, bigSepL_singleton]
  rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HR⟩, HB⟩
  isplitl [HB]; · iexact HB
  isplitl [HS] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays. -/
def payToks (c : Dev nD) : sProp 𝕄 :=
  iprop(dutyTok ER (barCell (prv c)) 0 true ∗ dutyTok ER (barCell (nxt c)) 0 false
    ∗ (bigSep Finset.univ fun i => dutyTok ER (sendCell i c) 0 false) ∗ bigSep Finset.univ fun i => dutyTok ER (recvCell i (tgt i c)) 0 false)

omit [FloatOps F] in
theorem bigSep_swap (Φ : Fin 6 → Dev nD → sProp 𝕄) :
    (bigSep Finset.univ fun c : Dev nD => bigSep Finset.univ fun i : Fin 6 => Φ i c) = bigSep Finset.univ fun i : Fin 6 => bigSep Finset.univ fun c : Dev nD => Φ i c := by
  rw [← bigSep_univ_prod (fun p : Dev nD × Fin 6 => Φ p.2 p.1), ← bigSep_univ_prod (fun p : Fin 6 × Dev nD => Φ p.1 p.2),
    bigSep_univ_equiv (Equiv.prodComm (Fin 6) (Dev nD)) (fun p : Dev nD × Fin 6 => Φ p.2 p.1)]
  rfl

omit [FloatOps F] in
/-- Each token goes to the device that pays its duty. -/
theorem toks_around : (bigSep Finset.univ fun c : Dev nD => (toks c : sProp 𝕄)) ⊢ bigSep Finset.univ fun c : Dev nD => payToks c := by
  have hR : (bigSep Finset.univ fun c : Dev nD => bigSep Finset.univ fun i : Fin 6 => (dutyTok ER (recvCell i c) 0 false : sProp 𝕄))
      = bigSep Finset.univ fun c : Dev nD => bigSep Finset.univ fun i : Fin 6 => dutyTok ER (recvCell i (tgt i c)) 0 false := by
    rw [bigSep_swap, bigSep_swap (fun i c => dutyTok ER (recvCell i (tgt i c)) 0 false)]
    exact bigSep_congr fun i _ => bigSep_univ_equiv (along i) (fun c : Dev nD => (dutyTok ER (recvCell i c) 0 false : sProp 𝕄))
  unfold toks payToks
  rw [bigSep_sep', bigSep_sep', bigSep_sep', bigSep_sep', bigSep_sep', bigSep_sep', hR,
    bigSep_univ_equiv ring.symm (fun c : Dev nD => (dutyTok ER (barCell c) 0 true : sProp 𝕄)),
    bigSep_univ_equiv ring (fun c : Dev nD => (dutyTok ER (barCell c) 0 false : sProp 𝕄))]
  exact Entails.refl _

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (ringRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd m) κ (kcell ck) : sProp 𝕄))) $$ HI
  icases HK with ⟨%K, #HI⟩
  ihave Htk := (toks_around (F := F)) $$ Htok
  iapply (bigSep_with_persistent (R := records m K) (Φ := fun c => linear c) (Ψ := G' m) fun c _ => show _ ⊢ G' m c from by
    unfold G'; iintro ⟨#H1, H2⟩; iexists K; isplitr; · iexact H1
    iexact H2)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from Entails.of_eq (by unfold linear payToks; rw [bigSep_CK])))
    isplitl [Hat]; · iexact Hat
    iexact Htk

omit [FloatOps F] in
/-- The global step, over the semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem kcell_eq_iff (ck ck' : Dev nD × CK) : kcell ck = kcell ck' ↔ ck = ck' := kcell_injective.eq_iff
theorem bar_eq_iff (a b : Dev nD) : barCell a = barCell b ↔ a = b := by
  rw [show barCell a = kcell (a, none) from rfl, show barCell b = kcell (b, none) from rfl, kcell_eq_iff]; simp
theorem recv_eq_iff (i j : Fin 6) (a b : Dev nD) : recvCell i a = recvCell j b ↔ a = b ∧ i = j := by
  rw [show recvCell i a = kcell (a, some (true, i)) from rfl, show recvCell j b = kcell (b, some (true, j)) from rfl, kcell_eq_iff]; simp
theorem bar_ne_recv (i : Fin 6) (a b : Dev nD) : barCell a ≠ recvCell i b := by
  rw [show barCell a = kcell (a, none) from rfl, show recvCell i b = kcell (b, some (true, i)) from rfl, Ne, kcell_eq_iff]; simp

theorem eq_nxt_iff (c d : Dev nD) : c = nxt d ↔ d = prv c := by revert c d; decide
theorem eq_prv_iff (c d : Dev nD) : c = prv d ↔ d = nxt c := by revert c d; decide
theorem eq_tgt_iff (i : Fin 6) (c d : Dev nD) : c = tgt i d ↔ d = org i c := by revert i c d; decide

/-- What is owed for the copies at one cell. -/
theorem owed_at (n : ℕ) (d : Dev nD) (g : GSem nD τ sig) :
    owed n d g () = ∑ j ∈ Finset.range n, if g = recvCell (Fin.ofNat 6 (5 - j)) (tgt (Fin.ofNat 6 (5 - j)) d) then N else 0 := by
  induction n with
  | zero => rfl
  | succ n ih => rw [owed, Pi.add_apply, Finsupp.add_apply, ih, Finset.sum_range_succ, tallyAt_apply]; simp

theorem owed_bar (d c : Dev nD) : O₀ d (barCell c) () = (if d = prv c then 1 else 0) + (if d = nxt c then 1 else 0) := by
  unfold O₀ O₁
  rw [Pi.add_apply, Finsupp.add_apply, Pi.add_apply, Finsupp.add_apply, owed_at, tallyAt_apply, tallyAt_apply,
    Finset.sum_eq_zero fun j _ => if_neg (bar_ne_recv _ _ _), Nat.zero_add]
  simp only [bar_eq_iff, and_true]
  rw [if_congr (eq_nxt_iff c d) rfl rfl, if_congr (eq_prv_iff c d) rfl rfl]

theorem owed_recv (i : Fin 6) (d c : Dev nD) : O₀ d (recvCell i c) () = if d = org i c then N else 0 := by
  unfold O₀ O₁
  rw [Pi.add_apply, Finsupp.add_apply, Pi.add_apply, Finsupp.add_apply, owed_at, tallyAt_ne_cell (fun h => bar_ne_recv _ _ _ h.symm),
    tallyAt_ne_cell (fun h => bar_ne_recv _ _ _ h.symm)]
  simp only [recv_eq_iff, Finsupp.zero_apply, Nat.add_zero]
  rw [Finset.sum_eq_single (5 - i.val)]
  · have h : Fin.ofNat 6 (5 - (5 - i.val)) = i := by revert i; decide
    rw [h]; simp only [eq_tgt_iff, and_true]
  · intro j hj hne
    rw [if_neg]
    rintro ⟨-, h⟩
    apply hne
    have := congrArg Fin.val h
    simp only [Fin.val_ofNat] at this
    have := Finset.mem_range.mp hj
    omega
  · intro h; exact absurd (Finset.mem_range.mpr (by omega)) h

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (i : Fin 6) (c : Dev nD) :
    tallyOn (recvCell i c) (launchCredit (Pipeline.owing O₀) 0 (recvCell i c)) = (tallyAt (recvCell i c) () N : CellTallies nD τ sig Unit) := by
  unfold tallyAt; refine congrArg _ (Finsupp.ext fun u => ?_); cases u
  rw [Pipeline.launchCredit_owing, Finsupp.single_eq_same, Finset.sum_congr rfl fun d _ => owed_recv i d c, Finset.sum_ite_eq' Finset.univ (org i c) fun _ => N,
    if_pos (Finset.mem_univ _)]

omit [FloatOps F] in
theorem creds (c : Dev nD) : (Pipeline.launchCred O₀ c : sProp 𝕄) ⊢ credits c := by
  unfold Pipeline.launchCred credits
  refine (bigSep_subset (Finset.subset_univ (Finset.univ.map ⟨csem, csem_injective⟩))).trans ?_
  rw [bigSep_map, bigSep_CK]
  refine BIClass.sep_mono (Entails.of_eq ?_) ((sep_elim_right).trans (Entails.of_eq (bigSep_congr fun i _ => ?_)))
  · exact congrArg _ (launch_bar c)
  · exact congrArg _ (launch_recv i c)

/-! ## The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, HzS, HzR, HzB⟩
  isplitl [HzB]; · iexact HzB
  isplitl [HzS HzR]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution of the kernel on the four devices ends, each result
    array at the computed contents, the inputs as they were and every semaphore's counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array after the run holds what it held. -/
theorem finalA_in (c : Dev nD) (w : Fin cfg0.W) (hw : (cfg0.win w).isOut = false) : finalA m ρ c w = m ((cfg0.win w).arr.view.loc (c : Thread nD τ)) :=
  (dats (F := F) m ρ 0 c).arrAt_in w hw _

end Cert.Moe

end
-- ==== Proof.Frames.lean ====
/-
The frame claims: both readings of the kernel, and the reference, run, keep their arguments and leave every semaphore at zero.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Moe

open Idealize.ShloMosaic
open Idealize.ShloMosaic.TcCoe
open Idealize.SL.Sem

section kernel

open Cert.KernelIdeal Cert.KernelIdeal.Gen

variable {F : FTy → Type} [FloatOps F]

/-- What a device's run leaves: its arguments as they were. -/
theorem kept (m : (ℓ : Loc nD τ sig) → Buf (Elt F) ℓ) (ρ : Dev nD → PrngReg) (r : PUnit × MemSt nD τ sig (Elt F)) (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h c (0 : Fin 5)).trans (finalA_in m ρ c (0 : Fin 5) rfl), (h c (1 : Fin 5)).trans (finalA_in m ρ c (1 : Fin 5) rfl),
    (h c (2 : Fin 5)).trans (finalA_in m ρ c (2 : Fin 5) rfl), (h c (3 : Fin 5)).trans (finalA_in m ρ c (3 : Fin 5) rfl)⟩

/-- The result's array after the run holds what the body stored. -/
theorem finalA_out (m : (ℓ : Loc nD τ sig) → Buf (Elt F) ℓ) (ρ : Dev nD → PrngReg) (c : Dev nD) :
    finalA m ρ c (4 : Fin 5) = outAt m c := by
  unfold finalA
  rw [show cfg0.N = t₀.val + 1 from rfl, (dats m ρ 0 c).arrAt_succ (4 : Fin 5) t₀, if_pos (by rfl)]
  have hz' : (fun a => win0_4.index t₀ a * win0_4.size a) = fun _ => 0 := funext fun a => by fin_cases a <;> rfl
  exact Memref.write_access_unit_zero_univ (Elt F) main_v1 hz' _ _ (outAt m c)

end kernel

/-! The two readings of the kernel are the same text. -/

theorem defs₀_eq : Cert.Kernel.defs₀ (F := Bits) = Cert.KernelIdeal.defs₀ (F := Bits) :=
  congrArg (Defs.onTc (nD := Cert.KernelIdeal.nD) (τ := Cert.KernelIdeal.τ) (sig := Cert.KernelIdeal.sig) (Λ := Cert.KernelIdeal.Λ₀))
    (funext fun l => funext fun p => by
      obtain ⟨_ | _, hl⟩ := l
      · obtain ⟨t, s⟩ := p
        show Cert.Kernel.cc0_body (F := Bits) .. = Cert.KernelIdeal.cc0_body (F := Bits) ..
        rfl
      · exact absurd hl (Nat.not_lt.2 (Nat.le_add_left _ _)))

theorem defs_eq : Cert.Kernel.defs (F := Bits) = Cert.KernelIdeal.defs (F := Bits) :=
  congrArg (Pipeline.defs (Cert.KernelIdeal.pcfgs (F := Bits))) defs₀_eq

theorem frame_kernel : Cert.quiescent_Kernel (hKernel := Cert.Kernel.Gen.facts) := fun m ρ _ => by
  rw [defs_eq]
  exact (θ_run Cert.KernelIdeal.defs _ _).mono (fun r h => ⟨kept m ρ r h.1, h.2⟩) (run_main (F := Bits) m ρ)

theorem frame_ideal : Cert.quiescent_KernelIdeal (hKernelIdeal := Cert.KernelIdeal.Gen.facts) := fun m ρ _ =>
  (θ_run Cert.KernelIdeal.defs _ _).mono (fun r h => ⟨kept m ρ r h.1, h.2⟩) (run_main (F := Ideal) m ρ)

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Moe

end
-- ==== Proof.Gates.lean ====
/-
The gates of one row, as plain mathematics of the extended reals: the kernel masks the softmax numerators by the row's two
experts and normalizes them once; the reference normalizes over all experts, picks the two and normalizes again. On real
scores, with one known expert at least, the two weigh the experts alike.
-/
module

public import Idealize.ShloMosaic.PureOps.Ideal.Laws

@[expose] public section

noncomputable section

namespace Cert.Moe

open Idealize.ShloMosaic

/-- Expert `e`'s number as a word. -/
abbrev lane (e : Fin 8) : BitVec 32 := BitVec.ofNat 32 e.val

theorem lane_inj {e k : Fin 8} (h : lane e = lane k) : e = k := by
  revert e k; decide

/-- The largest score of a row. -/
abbrev top (s : Fin 8 → EReal) : EReal := Finset.univ.fold max (Ideal.ofBits .f32 0xFF800000#32) s

/-- A softmax numerator. -/
abbrev num (s : Fin 8 → EReal) (e : Fin 8) : EReal := Ideal.exp (s e - top s)

/-- The kernel's weight of expert `e` in a row routed to `a` and `b`. -/
abbrev gateK (s : Fin 8 → EReal) (a b : BitVec 32) (e : Fin 8) : EReal :=
  Ideal.div (if a = lane e ∨ b = lane e then num s e else 0) (∑ k, if a = lane k ∨ b = lane k then num s k else 0)

/-- Whether expert `e` is the chosen one. -/
abbrev hot (a : BitVec 32) (e : Fin 8) : EReal := if a = lane e then 1 else 0

/-- The reference's probability of the chosen expert. -/
abbrev gateR (s : Fin 8 → EReal) (a : BitVec 32) : EReal :=
  0 + ∑ e, hot a e * Ideal.div (num s e) (0 + ∑ k, num s k)

/-- The reference's combination of the experts' outputs `y`. -/
abbrev mixR (s : Fin 8 → EReal) (a b : BitVec 32) (y : Fin 8 → EReal) : EReal :=
  Ideal.div (gateR s a) (gateR s a + gateR s b) * (0 + ∑ e, hot a e * y e)
    + Ideal.div (gateR s b) (gateR s a + gateR s b) * (0 + ∑ e, hot b e * y e)

/-! ## Real numbers among the extended ones -/

theorem coe_sum {ι : Type} (t : Finset ι) (f : ι → ℝ) : ((∑ i ∈ t, f i : ℝ) : EReal) = ∑ i ∈ t, (f i : EReal) := by
  classical
  induction t using Finset.induction with
  | empty => simp
  | insert a t h ih => rw [Finset.sum_insert h, Finset.sum_insert h, EReal.coe_add, ih]

/-- A real factor not below zero goes into a sum, whatever the summands. -/
theorem coe_mul_sum {ι : Type} (t : Finset ι) {r : ℝ} (hr : 0 ≤ r) (f : ι → EReal) :
    (r : EReal) * ∑ i ∈ t, f i = ∑ i ∈ t, (r : EReal) * f i := by
  classical
  induction t using Finset.induction with
  | empty => simp
  | insert a t h ih =>
    rw [Finset.sum_insert h, Finset.sum_insert h,
      EReal.left_distrib_of_nonneg_of_ne_top (by exact_mod_cast hr) (EReal.coe_ne_top r), ih]

theorem div_coe_coe (x : ℝ) {y : ℝ} (hy : y ≠ 0) : Ideal.div (x : EReal) (y : EReal) = ((x / y : ℝ) : EReal) := by
  rw [Ideal.div_coe hy, ← EReal.coe_mul, mul_one_div]

theorem init_top : Ideal.ofBits .f32 0xFF800000#32 = (⊥ : EReal) := by
  simp [Ideal.ofBits, Ideal.ieee]

/-- Real scores have a real maximum … -/
theorem top_real {s : Fin 8 → EReal} (h : ∀ e, ∃ r : ℝ, s e = r) : ∃ r : ℝ, top s = r := by
  have h1 : top s ≠ ⊥ := by
    obtain ⟨r, hr⟩ := h 0
    have : (r : EReal) ≤ top s := (Finset.le_fold_max _).2 (Or.inr ⟨0, Finset.mem_univ _, hr.ge⟩)
    exact fun hb => EReal.coe_ne_bot r (le_bot_iff.1 (hb ▸ this))
  have h2 : top s < ⊤ := (Finset.fold_max_lt _).2 ⟨by rw [init_top]; exact bot_lt_top, fun e _ => by
    obtain ⟨r, hr⟩ := h e
    rw [hr]; exact EReal.coe_lt_top r⟩
  exact ⟨(top s).toReal, (EReal.coe_toReal h2.ne h1).symm⟩

/-- … and positive real numerators. -/
theorem num_real {s : Fin 8 → EReal} (h : ∀ e, ∃ r : ℝ, s e = r) : ∃ v : Fin 8 → ℝ, (∀ e, 0 < v e) ∧ ∀ e, num s e = v e := by
  obtain ⟨t, ht⟩ := top_real h
  choose r hr using h
  refine ⟨fun e => Real.exp (r e - t), fun e => Real.exp_pos _, fun e => ?_⟩
  rw [num, ht, hr, ← EReal.coe_sub, Ideal.exp_coe]

/-! ## The two normalizations -/

/-- The choice as a real number. -/
def pick (a : BitVec 32) (e : Fin 8) : ℝ := if a = lane e then 1 else 0

theorem hot_eq (a : BitVec 32) (e : Fin 8) : hot a e = (pick a e : EReal) := by
  unfold hot pick; split <;> simp

theorem pick_nonneg (a : BitVec 32) (e : Fin 8) : 0 ≤ pick a e := by
  unfold pick; split <;> norm_num

/-- Where `e` is the chosen expert, the sum over the choice is `e`'s term. -/
theorem pick_mul (a : BitVec 32) (v : Fin 8 → ℝ) (e : Fin 8) : pick a e * ∑ k, pick a k * v k = pick a e * v e := by
  by_cases h : a = lane e
  · rw [Finset.sum_eq_single e]
    · simp [pick, h]
    · intro k _ hk
      have : a ≠ lane k := fun hk' => hk (lane_inj (hk'.symm.trans h))
      simp [pick, this]
    · simp
  · simp [pick, h]

theorem pick_sum_pos {a : BitVec 32} {e : Fin 8} (h : a = lane e) {v : Fin 8 → ℝ} (hv : ∀ e, 0 < v e) :
    0 < ∑ k, pick a k * v k := by
  refine Finset.sum_pos' (fun k _ => mul_nonneg (pick_nonneg a k) (hv k).le) ⟨e, Finset.mem_univ _, ?_⟩
  simpa [pick, h] using hv e

/-- The experts of the row, the numerators masked by them. -/
def masked (a b : BitVec 32) (v : Fin 8 → ℝ) (e : Fin 8) : ℝ := if a = lane e ∨ b = lane e then v e else 0

theorem masked_same (a : BitVec 32) (v : Fin 8 → ℝ) (e : Fin 8) : masked a a v e = pick a e * v e := by
  unfold masked pick; split <;> simp_all

theorem masked_two {a b : BitVec 32} (hab : a ≠ b) (v : Fin 8 → ℝ) (e : Fin 8) :
    masked a b v e = pick a e * v e + pick b e * v e := by
  unfold masked pick
  by_cases ha : a = lane e <;> by_cases hb : b = lane e <;> simp [ha, hb]
  exact absurd (ha.trans hb.symm) hab

/-- The weights agree: `ga` and `gb` the chosen probabilities, `Z` what they are normalized by first. -/
theorem weights (a b : BitVec 32) (hab : (∃ e, a = lane e) ∨ ∃ e, b = lane e) {v : Fin 8 → ℝ} (hv : ∀ e, 0 < v e)
    {Z : ℝ} (hZ : 0 < Z) (e : Fin 8) :
    let g := fun c => ∑ k, pick c k * (v k / Z)
    0 < g a + g b ∧ 0 < ∑ k, masked a b v k ∧
      masked a b v e / (∑ k, masked a b v k) = g a / (g a + g b) * pick a e + g b / (g a + g b) * pick b e := by
  intro g
  have hg : ∀ c, g c = (∑ k, pick c k * v k) / Z := fun c => by
    simp only [g, Finset.sum_div, mul_div_assoc]
  have hpos : ∀ c, 0 ≤ ∑ k, pick c k * v k := fun c =>
    Finset.sum_nonneg fun k _ => mul_nonneg (pick_nonneg c k) (hv k).le
  set A := ∑ k, pick a k * v k with hA
  set B := ∑ k, pick b k * v k with hB
  have hAB : 0 < A + B := by
    rcases hab with ⟨e, he⟩ | ⟨e, he⟩
    · exact add_pos_of_pos_of_nonneg (pick_sum_pos he hv) (hpos b)
    · exact add_pos_of_nonneg_of_pos (hpos a) (pick_sum_pos he hv)
  have hgs : g a + g b = (A + B) / Z := by rw [hg, hg, add_div]
  have ha := pick_mul a v e
  have hb := pick_mul b v e
  refine ⟨hgs ▸ div_pos hAB hZ, ?_⟩
  rw [hgs, hg, hg, ← hA, ← hB, div_div_div_cancel_right₀ hZ.ne', div_div_div_cancel_right₀ hZ.ne']
  by_cases h : a = b
  · subst h
    have hm : (∑ k, masked a a v k) = A := Finset.sum_congr rfl fun k _ => masked_same a v k
    have hpos : 0 < A := by linarith
    rw [hm, masked_same, ← ha]
    refine ⟨hpos, ?_⟩
    field_simp
    ring
  · have hm : (∑ k, masked a b v k) = A + B := by
      rw [hA, hB, ← Finset.sum_add_distrib]
      exact Finset.sum_congr rfl fun k _ => masked_two h v k
    rw [hm, masked_two h, ← ha, ← hb, ← hA, ← hB]
    refine ⟨hAB, ?_⟩
    field_simp

/-- On real scores, with one known expert at least: the kernel's weights are real and not below zero, and the reference's
    combination weighs by them. -/
theorem gates_agree {s : Fin 8 → EReal} (hs : ∀ e, ∃ r : ℝ, s e = r) {a b : BitVec 32}
    (hab : (∃ e, a = lane e) ∨ ∃ e, b = lane e) :
    ∃ w : Fin 8 → ℝ, (∀ e, 0 ≤ w e) ∧ (∀ e, gateK s a b e = w e) ∧ ∀ y, mixR s a b y = ∑ e, (w e : EReal) * y e := by
  obtain ⟨v, hv, hn⟩ := num_real hs
  have hZ : 0 < ∑ k, v k := Finset.sum_pos (fun k _ => hv k) Finset.univ_nonempty
  have hw := fun e => weights a b hab hv hZ e
  set g : BitVec 32 → ℝ := fun c => ∑ k, pick c k * (v k / ∑ k, v k) with hg
  have hgpos : ∀ c, 0 ≤ g c := fun c => Finset.sum_nonneg fun k _ =>
    mul_nonneg (pick_nonneg c k) (div_nonneg (hv k).le hZ.le)
  have hR : ∀ c, gateR s c = (g c : EReal) := fun c => by
    simp only [gateR, hn, hot_eq, zero_add, ← coe_sum, div_coe_coe _ hZ.ne', ← EReal.coe_mul, hg]
  have hgs : 0 < g a + g b := (hw 0).1
  have hm : ∀ e, (if a = lane e ∨ b = lane e then num s e else 0) = (masked a b v e : EReal) := fun e => by
    unfold masked; split <;> simp [hn]
  refine ⟨fun e => masked a b v e / ∑ k, masked a b v k, fun e => ?_, fun e => ?_, fun y => ?_⟩
  · refine div_nonneg ?_ (hw e).2.1.le
    unfold masked; split
    · exact (hv e).le
    · exact le_rfl
  · simp only [gateK, hm, ← coe_sum, div_coe_coe _ (hw e).2.1.ne']
  · simp only [mixR, hR, hot_eq, zero_add, ← EReal.coe_add, div_coe_coe _ hgs.ne']
    rw [coe_mul_sum _ (div_nonneg (hgpos a) hgs.le), coe_mul_sum _ (div_nonneg (hgpos b) hgs.le), ← Finset.sum_add_distrib]
    refine Finset.sum_congr rfl fun e _ => ?_
    rw [(hw e).2.2, ← mul_assoc, ← mul_assoc, ← EReal.coe_mul, ← EReal.coe_mul, EReal.coe_add]
    refine (EReal.right_distrib_of_nonneg ?_ ?_).symm
    · exact_mod_cast mul_nonneg (div_nonneg (hgpos a) hgs.le) (pick_nonneg a e)
    · exact_mod_cast mul_nonneg (div_nonneg (hgpos b) hgs.le) (pick_nonneg b e)

/-- The kernel's product of one expert: its weight scales the row before the product. -/
theorem scaled {ι : Type} (t : Finset ι) {w : ℝ} (hw : 0 ≤ w) (x W : ι → EReal) :
    ∑ d ∈ t, x d * (w : EReal) * W d = (w : EReal) * ∑ d ∈ t, x d * W d := by
  rw [coe_mul_sum t hw]
  exact Finset.sum_congr rfl fun d _ => by rw [mul_comm (x d), mul_assoc]

/-- A sum of products of finite factors is real. -/
theorem dot_real {ι : Type} (t : Finset ι) {x W : ι → EReal} (hx : ∀ i, ∃ r : ℝ, x i = r) (hW : ∀ i, ∃ r : ℝ, W i = r) :
    ∃ r : ℝ, ∑ i ∈ t, x i * W i = r := by
  choose p hp using hx
  choose q hq using hW
  exact ⟨∑ i ∈ t, p i * q i, by simp only [hp, hq, ← EReal.coe_mul, ← coe_sum]⟩

end Cert.Moe

end
-- ==== Proof.KernelValue.lean ====
/-
What the kernel computes, read at an index at the ideal values: the sum over the eight experts of the row, scaled by the
expert's weight, times the expert's matrix.
-/
module

public import proofs.«01_k».proof.Proof.Body
public import proofs.«01_k».proof.Proof.Gates
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.Value

@[expose] public section

noncomputable section

namespace Cert.Moe

open Cert.KernelIdeal Cert.KernelIdeal.Gen
open Idealize.ShloMosaic
open Idealize.ShloMosaic.TcCoe
open Idealize.ShloMosaic.ValueIdx
open Idealize.SL Idealize.SL.Sem

/-! ## The kernel's text, folded -/

section Fold

variable {F : FTy → Type} [FloatOps F]

/-- The lanes' numbers. -/
def lanes : IVec S512x8 32 := iota .tc S512x8 32 [1] iota_S512x8_d1_w32

/-- The sum of each row's lanes … -/
def rowAdd (v : FVec F S512x8 .f32) : FVec F S512 .f32 :=
  multiReduction .add [1] S512 v 0x00000000#32 reduces_S512x8_S512 (.inl rfl) rfl

/-- … and the greatest. -/
def rowMax (v : FVec F S512x8 .f32) : FVec F S512 .f32 :=
  multiReduction .maximumf [1] S512 v 0xFF800000#32 reduces_S512x8_S512 (.inl rfl) rfl

/-- The rows scaled by their weight for the expert numbered `eid`. -/
def gated (xf : FVec F S512x256 .bf16) (w : FVec F S512x8 .f32) (eid : BitVec 32) : FVec F S512x256 .bf16 :=
  mulf xf (broadcastTo S512x256 (truncf .bf16 (shapeCast S512x1
    (rowAdd (select (cmpi .eq lanes (broadcast S512x8 eid)) w (broadcast S512x8 (Scalar.ofBits .f32 0x00000000#32))))
    shapeCasts_S512_S512x1) bitsLt_bf16_f32) broadcasts_S512x1_S512x256)

/-- The product with an expert's matrix. -/
def mm (g : FVec F S512x256 .bf16) (W : FVec F S256x512 .bf16) : FVec F S512x512 .f32 :=
  matmul dot_S512x256_S256x512_S512x512_1_0_0_1_n_n none g W (constant S512x512 .f32 0x00000000#32)

/-- An expert's number from its device's and its place there. -/
abbrev eidOf (w k : BitVec 32) : BitVec 32 := Scalar.addi (Scalar.muli w 2#32) k

/-- The kernel's sum, expert by expert in the order of the text. -/
theorem outOf_eq (w2 w5 w7 : BitVec 32) (x : Vec F S512x256 .bf16) (rw : Vec F S256x8 .bf16) (i0 i1 : Vec F S512x1 .i32)
    (e0 e1 : Vec F S1x256x512 .bf16) (s0 s1 s2 s3 s4 s5 : Vec F S1x1x256x512 .bf16) :
    outOf w2 w5 w7 x rw i0 i1 e0 e1 s0 s1 s2 s3 s4 s5 =
      let w := k0_pay3 x rw i0 i1
      let xf := k0_pay2 x
      let w6 := Scalar.remsi (Scalar.addi w2 2#32) 4#32
      let own := fun e : Vec F S1x256x512 .bf16 => (shapeCast S256x512 e shapeCasts_S1x256x512_S256x512 : FVec F S256x512 .bf16)
      let got := fun e : Vec F S1x1x256x512 .bf16 => (shapeCast S256x512 e shapeCasts_S1x1x256x512_S256x512 : FVec F S256x512 .bf16)
      truncf .bf16
        (addf (addf (addf (addf (addf (addf (addf (addf (broadcast S512x512 (Scalar.ofBits .f32 0x00000000#32))
          (mm (gated xf w (eidOf w2 0#32)) (own e0))) (mm (gated xf w (eidOf w2 1#32)) (own e1)))
          (mm (gated xf w (eidOf w5 0#32)) (got s0))) (mm (gated xf w (eidOf w7 1#32)) (got s1)))
          (mm (gated xf w (eidOf w5 1#32)) (got s2))) (mm (gated xf w (eidOf w7 0#32)) (got s3)))
          (mm (gated xf w (eidOf w6 0#32)) (got s4))) (mm (gated xf w (eidOf w6 1#32)) (got s5))) bitsLt_bf16_f32 := rfl

end Fold

/-! ## Read at an index, at the ideal values -/

/-- A column broadcast over a matrix reads its row's entry. -/
theorem column_apply {a b : ℕ} {α : Type} (v : (⟨2, ![a, 1]⟩ : Shape).Idx → α) (h : (⟨2, ![a, 1]⟩ : Shape).Broadcasts ⟨2, ![a, b]⟩)
    (i : Fin a) (j : Fin b) (ha : a ≠ 1) : broadcastTo ⟨2, ![a, b]⟩ v h (ix2 i j) = v (ix2 i (0 : Fin 1)) :=
  broadcastTo_apply v h _ _ fun d => match d with
    | ⟨0, _⟩ => (if_neg ha).symm
    | ⟨1, _⟩ => (if_pos rfl).symm

theorem lift_row (r : Fin 512) (e : Fin 8) : reduces_S512x8_S512.lift (ix1 r) e = ix2 r e := by
  funext a; apply Fin.ext
  match a with
  | ⟨0, _⟩ => rfl
  | ⟨1, _⟩ => rfl

theorem lanes_apply (r : Fin 512) (e : Fin 8) : lanes (ix2 r e) = lane e :=
  congrArg (BitVec.ofNat 32) (show 0 * 8 + e.val = e.val by omega)

theorem rowAdd_apply (v : FVec Ideal S512x8 .f32) (r : Fin 512) : rowAdd v (ix1 r) = ∑ k : Fin 8, v (ix2 r k) :=
  (Ideal.multiReduction_add_single v _ _ _ _ _).trans (Finset.sum_congr rfl fun k _ => congrArg v (lift_row r k))

theorem rowMax_apply (v : FVec Ideal S512x8 .f32) (r : Fin 512) : rowMax v (ix1 r) = top fun k => v (ix2 r k) :=
  (Ideal.multiReduction_maximumf_single v _ _ _ _ _).trans
    (congrArg (Finset.univ.fold max _) (funext fun k => congrArg v (lift_row r k)))

theorem cmpi_eq (p q : BitVec 32) : IntOp.cmpi .eq p q = if p = q then 1#1 else 0#1 := by
  unfold IntOp.cmpi
  by_cases h : p = q
  · simp [h]
  · rw [if_neg h, show (p == q) = false by simpa using h]
    rfl

theorem bit_select {p q : BitVec 32} {α : Type} (a b : α) :
    Scalar.select (IntOp.cmpi .eq p q) a b = if p = q then a else b := by
  rw [cmpi_eq]
  by_cases h : p = q <;> simp [h, Scalar.select]

theorem bits_select {p q t : BitVec 32} {α : Type} (a b : α) :
    Scalar.select (IntOp.ori (IntOp.cmpi .eq p t) (IntOp.cmpi .eq q t)) a b = if p = t ∨ q = t then a else b := by
  rw [cmpi_eq, cmpi_eq]
  by_cases h : p = t <;> by_cases h' : q = t <;> simp [h, h', Scalar.select, IntOp.ori]

theorem gated_apply (xf : FVec Ideal S512x256 .bf16) (w : FVec Ideal S512x8 .f32) (e : Fin 8) (r : Fin 512) (d : Fin 256) :
    gated xf w (lane e) (ix2 r d) = xf (ix2 r d) * w (ix2 r e) := by
  unfold gated
  rw [mulf_apply, column_apply _ _ _ _ (by decide), truncf_apply, shapeCast_a_a1_apply, rowAdd_apply]
  congr 1
  rw [Finset.sum_eq_single e]
  · show Scalar.select (IntOp.cmpi .eq (lanes (ix2 r e)) (lane e)) _ _ = _
    rw [lanes_apply, bit_select, if_pos rfl]
  · intro k _ hk
    show Scalar.select (IntOp.cmpi .eq (lanes (ix2 r k)) (lane e)) _ (Ideal.ofBits .f32 0x00000000#32) = _
    rw [lanes_apply, bit_select, if_neg fun h => hk (lane_inj h), Ideal.ofBits_zero_f32]
  · exact fun h => absurd (Finset.mem_univ _) h

theorem mm_apply (g : FVec Ideal S512x256 .bf16) (W : FVec Ideal S256x512 .bf16) (r : Fin 512) (h : Fin 512) :
    mm g W (ix2 r h) = ∑ d : Fin 256, g (ix2 r d) * W (ix2 d h) := by
  unfold mm
  refine (Ideal.matmul_plain_apply none g W _ r h).trans ?_
  rw [constant_apply, Ideal.ofBits_zero_f32, zero_add]

/-- A row's score for expert `e`. -/
abbrev score (x : S512x256.Idx → EReal) (rw : S256x8.Idx → EReal) (r : Fin 512) (e : Fin 8) : EReal :=
  ∑ d : Fin 256, x (ix2 r d) * rw (ix2 d e)

theorem pay2_apply (x : Vec Ideal S512x256 .bf16) (i : S512x256.Idx) : k0_pay2 x i = x i := by
  unfold k0_pay2
  exact shapeCast_apply x _ i i rfl

/-- The kernel's scores … -/
def scores (x : Vec Ideal S512x256 .bf16) (rw : Vec Ideal S256x8 .bf16) : FVec Ideal S512x8 .f32 :=
  matmul dot_S512x256_S8x256_S512x8_1_1_0_0_n_n none (k0_pay2 x)
    (transpose S8x256 [1, 0] (shapeCast S256x8 rw shapeCasts_S256x8_S256x8) transposes_S256x8_p1_0_S8x256 : FVec Ideal S8x256 .bf16)
    (constant S512x8 .f32 0x00000000#32)

/-- … and its numerators, masked by the rows' experts. -/
def maskedNum (sc : FVec Ideal S512x8 .f32) (i0 i1 : Vec Ideal S512x1 .i32) : FVec Ideal S512x8 .f32 :=
  select (ori
      (cmpi .eq (broadcastTo S512x8 (shapeCast S512x1 i0 shapeCasts_S512x1_S512x1) broadcasts_S512x1_S512x8) lanes)
      (cmpi .eq (broadcastTo S512x8 (shapeCast S512x1 i1 shapeCasts_S512x1_S512x1) broadcasts_S512x1_S512x8) lanes))
    (exp (subf sc (broadcastTo S512x8 (shapeCast S512x1 (rowMax sc) shapeCasts_S512_S512x1) broadcasts_S512x1_S512x8)))
    (broadcast S512x8 (Scalar.ofBits .f32 0x00000000#32))

theorem pay3_eq (x : Vec Ideal S512x256 .bf16) (rw : Vec Ideal S256x8 .bf16) (i0 i1 : Vec Ideal S512x1 .i32) :
    k0_pay3 x rw i0 i1 = divf (maskedNum (scores x rw) i0 i1) (broadcastTo S512x8 (shapeCast S512x1
      (rowAdd (maskedNum (scores x rw) i0 i1))
      shapeCasts_S512_S512x1) broadcasts_S512x1_S512x8) := rfl

theorem scores_apply (x : Vec Ideal S512x256 .bf16) (rw : Vec Ideal S256x8 .bf16) (r : Fin 512) (k : Fin 8) :
    scores x rw (ix2 r k) = score x rw r k := by
  refine (Ideal.matmul_transposedRhs_apply none _ _ _ r k).trans ?_
  rw [constant_apply, Ideal.ofBits_zero_f32, zero_add]
  refine Finset.sum_congr rfl fun d _ => ?_
  rw [pay2_apply, transpose_ix2_apply]
  exact congrArg (x (ix2 r d) * ·) (shapeCast_apply rw _ _ _ rfl)

theorem index_apply (v : Vec Ideal S512x1 .i32) (r : Fin 512) (k : Fin 8) :
    (broadcastTo S512x8 (shapeCast S512x1 v shapeCasts_S512x1_S512x1) broadcasts_S512x1_S512x8 : IVec S512x8 32) (ix2 r k) = v (ix2 r 0) := by
  rw [column_apply _ _ _ _ (by decide)]
  exact shapeCast_apply v _ _ _ rfl

theorem maskedNum_apply (sc : FVec Ideal S512x8 .f32) (i0 i1 : Vec Ideal S512x1 .i32) (r : Fin 512) (k : Fin 8) :
    maskedNum sc i0 i1 (ix2 r k)
      = if i0 (ix2 r 0) = lane k ∨ i1 (ix2 r 0) = lane k then num (fun e => sc (ix2 r e)) k else 0 := by
  show Scalar.select (IntOp.ori (IntOp.cmpi .eq _ (lanes (ix2 r k))) (IntOp.cmpi .eq _ (lanes (ix2 r k)))) (Ideal.exp (sc (ix2 r k) - _))
    (Ideal.ofBits .f32 0x00000000#32) = _
  rw [lanes_apply, index_apply, index_apply, column_apply _ _ _ _ (by decide), shapeCast_a_a1_apply, rowMax_apply, Ideal.ofBits_zero_f32]
  exact bits_select _ _

/-- The kernel's weights are a row's gates. -/
theorem pay3_apply (x : Vec Ideal S512x256 .bf16) (rw : Vec Ideal S256x8 .bf16) (i0 i1 : Vec Ideal S512x1 .i32) (r : Fin 512) (e : Fin 8) :
    k0_pay3 x rw i0 i1 (ix2 r e) = gateK (score x rw r) (i0 (ix2 r 0)) (i1 (ix2 r 0)) e := by
  have hs : (fun e => scores x rw (ix2 r e)) = score x rw r := funext (scores_apply x rw r)
  rw [pay3_eq, divf_apply, column_apply _ _ _ _ (by decide), shapeCast_a_a1_apply, rowAdd_apply, maskedNum_apply, hs]
  unfold gateK
  congr 1
  refine Finset.sum_congr rfl fun k _ => ?_
  exact (maskedNum_apply _ i0 i1 r k).trans (by rw [hs])

/-! ## What the loads bring -/

variable (m : (ℓ : Loc nD τ sig) → Buf (Elt Ideal) ℓ)

theorem xstg_eq (c : Dev nD) : xstg m c = m ((c : Thread nD τ).loc main_arg0) := by
  have hz : (fun a => win0_0.index (0 : Fin 1) a * win0_0.size a) = fun _ => 0 := funext fun a => by fin_cases a <;> rfl
  exact Memref.read_access_unit_zero (Elt Ideal) main_arg0 hz _ _

theorem rwstg_eq (c : Dev nD) : rwstg m c = m ((c : Thread nD τ).loc main_arg1) := by
  have hz : (fun a => win0_1.index (0 : Fin 1) a * win0_1.size a) = fun _ => 0 := funext fun a => by fin_cases a <;> rfl
  exact Memref.read_access_unit_zero (Elt Ideal) main_arg1 hz _ _

theorem idstg_eq (c : Dev nD) : idstg m c = m ((c : Thread nD τ).loc main_arg2) := by
  have hz : (fun a => win0_2.index (0 : Fin 1) a * win0_2.size a) = fun _ => 0 := funext fun a => by fin_cases a <;> rfl
  exact Memref.read_access_unit_zero (Elt Ideal) main_arg2 hz _ _

theorem ewstg_eq (c : Dev nD) : ewstg m c = m ((c : Thread nD τ).loc main_arg3) := by
  have hz : (fun a => win0_3.index (0 : Fin 1) a * win0_3.size a) = fun _ => 0 := funext fun a => by fin_cases a <;> rfl
  exact Memref.read_access_unit_zero (Elt Ideal) main_arg3 hz _ _

theorem x_load (c : Dev nD) : xM.view.readAt (Elt Ideal) xR.toLoadRect (xstg m c) = m ((c : Thread nD τ).loc main_arg0) :=
  (Memref.readAt_unit_zero (Elt Ideal) cc0_stg0_0 (by decide) _ _).trans (xstg_eq m c)

theorem rw_load (c : Dev nD) : rwM.view.readAt (Elt Ideal) rwR.toLoadRect (rwstg m c) = m ((c : Thread nD τ).loc main_arg1) :=
  (Memref.readAt_unit_zero (Elt Ideal) cc0_stg1_0 (by decide) _ _).trans (rwstg_eq m c)

theorem i0_load (c : Dev nD) (r : Fin 512) :
    idM.view.readAt (Elt Ideal) i0R.toLoadRect (idstg m c) (ix2 r (0 : Fin 1)) = m ((c : Thread nD τ).loc main_arg2) (ix2 r (0 : Fin 2)) := by
  rw [idstg_eq]
  refine congrArg (m ((c : Thread nD τ).loc main_arg2)) (funext fun a => Fin.ext ?_)
  match a with
  | ⟨0, _⟩ => exact (show 0 + 1 * r.val = r.val by omega)
  | ⟨1, _⟩ => rfl

theorem i1_load (c : Dev nD) (r : Fin 512) :
    idM.view.readAt (Elt Ideal) i1R.toLoadRect (idstg m c) (ix2 r (0 : Fin 1)) = m ((c : Thread nD τ).loc main_arg2) (ix2 r (1 : Fin 2)) := by
  rw [idstg_eq]
  refine congrArg (m ((c : Thread nD τ).loc main_arg2)) (funext fun a => Fin.ext ?_)
  match a with
  | ⟨0, _⟩ => exact (show 0 + 1 * r.val = r.val by omega)
  | ⟨1, _⟩ => rfl

/-- A device's expert, as a matrix. -/
theorem expert_apply (k : Fin 2) (p : Dev nD) (d : Fin 256) (h : Fin 512) :
    expert m k p (ix2 d h) = m ((p : Thread nD τ).loc main_arg3) (ix3 k d h) := by
  unfold expert
  rw [ewstg_eq, Memref.read_squeeze_slice ewM (expR k) (fun _ => rfl) squeezes_S1x256x512_S256x512 shapeCasts_S1x256x512_S256x512]
  refine (shapeCast_1ab_ab_apply _ _ d h).trans ?_
  refine congrArg (m ((p : Thread nD τ).loc main_arg3)) (funext fun a => Fin.ext ?_)
  match a with
  | ⟨0, _⟩ => fin_cases k <;> rfl
  | ⟨1, _⟩ => fin_cases k <;> exact (show 0 + 1 * d.val = d.val by omega)
  | ⟨2, _⟩ => fin_cases k <;> exact (show 0 + 1 * h.val = h.val by omega)

theorem own_block (k : Fin 2) (c : Dev nD) :
    shapeCast S256x512 (expVal m k c) shapeCasts_S1x256x512_S256x512 = expert m k c := rfl

theorem got_block (i : Fin 6) (c : Dev nD) :
    shapeCast S256x512 (slotVal m i c) shapeCasts_S1x1x256x512_S256x512 = block m i c := read_landed m i c

/-! ## The experts' numbers -/

/-- Expert `k` of device `p` among all eight. -/
def gid (p : Dev nD) (k : Fin 2) : Fin 8 := ⟨2 * p.val + k.val, by have := p.isLt; have : nD = 4 := rfl; omega⟩

theorem eid_own (c : Dev nD) : eidOf (word c) 0#32 = lane (gid c 0) ∧ eidOf (word c) 1#32 = lane (gid c 1) := by
  fin_cases c <;> exact ⟨rfl, rfl⟩
theorem eid_left (c : Dev nD) : eidOf (wordL c) 0#32 = lane (gid (prv c) 0) ∧ eidOf (wordL c) 1#32 = lane (gid (prv c) 1) := by
  fin_cases c <;> exact ⟨rfl, rfl⟩
theorem eid_right (c : Dev nD) : eidOf (wordR c) 0#32 = lane (gid (nxt c) 0) ∧ eidOf (wordR c) 1#32 = lane (gid (nxt c) 1) := by
  fin_cases c <;> exact ⟨rfl, rfl⟩
theorem eid_far (c : Dev nD) : eidOf (Scalar.remsi (Scalar.addi (word c) 2#32) 4#32) 0#32 = lane (gid (prv (prv c)) 0)
    ∧ eidOf (Scalar.remsi (Scalar.addi (word c) 2#32) 4#32) 1#32 = lane (gid (nxt (nxt c)) 1) := by
  fin_cases c <;> exact ⟨rfl, rfl⟩

/-- The order in which a device meets the experts is a permutation of them. -/
theorem sum_order (c : Dev nD) (T : Fin 8 → EReal) :
    0 + T (gid c 0) + T (gid c 1) + T (gid (prv c) 0) + T (gid (nxt c) 1) + T (gid (prv c) 1) + T (gid (nxt c) 0)
      + T (gid (prv (prv c)) 0) + T (gid (nxt (nxt c)) 1) = ∑ e, T e := by
  rw [Fin.sum_univ_eight, zero_add]
  fin_cases c
  · show T 0 + T 1 + T 6 + T 3 + T 7 + T 2 + T 4 + T 5 = _
    ac_rfl
  · show T 2 + T 3 + T 0 + T 5 + T 1 + T 4 + T 6 + T 7 = _
    ac_rfl
  · show T 4 + T 5 + T 2 + T 7 + T 3 + T 6 + T 0 + T 1 = _
    ac_rfl
  · show T 6 + T 7 + T 4 + T 1 + T 5 + T 0 + T 2 + T 3 = _
    ac_rfl

/-- Expert `e`'s matrix, in its device's memory. -/
def weight (e : Fin 8) (d : Fin 256) (h : Fin 512) : EReal :=
  m (((⟨e.val / 2, by have := e.isLt; have : nD = 4 := rfl; omega⟩ : Dev nD) : Thread nD τ).loc main_arg3)
    (ix3 (⟨e.val % 2, Nat.mod_lt _ (by decide)⟩ : Fin 2) d h)

theorem weight_gid (p : Dev nD) (k : Fin 2) (d : Fin 256) (h : Fin 512) :
    weight m (gid p k) d h = m ((p : Thread nD τ).loc main_arg3) (ix3 k d h) := by
  unfold weight
  have h1 : (⟨(gid p k).val / 2, by have := (gid p k).isLt; have : nD = 4 := rfl; omega⟩ : Dev nD) = p :=
    Fin.ext (show (2 * p.val + k.val) / 2 = p.val by omega)
  have h2 : (⟨(gid p k).val % 2, Nat.mod_lt _ (by decide)⟩ : Fin 2) = k :=
    Fin.ext (show (2 * p.val + k.val) % 2 = k.val by omega)
  rw [h2]
  exact congrArg (fun q : Dev nD => m ((q : Thread nD τ).loc main_arg3) (ix3 k d h)) h1

/-- One expert's part of the result at row `r`, column `h`. -/
def part (c : Dev nD) (r h : Fin 512) (e : Fin 8) : EReal :=
  ∑ d : Fin 256, (show EReal from m ((c : Thread nD τ).loc main_arg0) (ix2 r d))
    * gateK (score (m ((c : Thread nD τ).loc main_arg0)) (m ((c : Thread nD τ).loc main_arg1)) r)
        (m ((c : Thread nD τ).loc main_arg2) (ix2 r (0 : Fin 2))) (m ((c : Thread nD τ).loc main_arg2) (ix2 r (1 : Fin 2))) e
    * weight m e d h

theorem expert_part (c : Dev nD) (p : Dev nD) (k : Fin 2) (r h : Fin 512) :
    mm (gated (k0_pay2 (m ((c : Thread nD τ).loc main_arg0))) (k0_pay3 (m ((c : Thread nD τ).loc main_arg0)) (m ((c : Thread nD τ).loc main_arg1))
      (idM.view.readAt (Elt Ideal) i0R.toLoadRect (idstg m c)) (idM.view.readAt (Elt Ideal) i1R.toLoadRect (idstg m c))) (lane (gid p k)))
      (expert m k p) (ix2 r h) = part m c r h (gid p k) := by
  rw [mm_apply]
  unfold part
  refine Finset.sum_congr rfl fun d _ => ?_
  rw [gated_apply, pay2_apply, pay3_apply, i0_load, i1_load, expert_apply, weight_gid]

private theorem add2 {a a' b b' : EReal} (h : a = a') (h' : b = b') : a + b = a' + b' := by rw [h, h']

/-- The kernel's result at row `r`, column `h`: the sum over the experts. -/
theorem outAt_apply (c : Dev nD) (r h : Fin 512) : (outAt m c (ix2 r h) : EReal) = ∑ e : Fin 8, part m c r h e := by
  unfold outAt
  rw [outOf_eq, x_load, rw_load]
  dsimp only
  rw [own_block, own_block, got_block, got_block, got_block, got_block, got_block, got_block,
    (eid_own c).1, (eid_own c).2, (eid_left c).1, (eid_left c).2, (eid_right c).1, (eid_right c).2, (eid_far c).1, (eid_far c).2]
  simp only [block]
  rw [truncf_apply, addf_apply, addf_apply, addf_apply, addf_apply, addf_apply, addf_apply, addf_apply, addf_apply]
  refine Eq.trans ?_ (sum_order c (part m c r h))
  have z : (broadcast S512x512 (Scalar.ofBits (F := Ideal) .f32 0x00000000#32) : FVec Ideal S512x512 .f32) (ix2 r h) = (0 : EReal) :=
    Ideal.ofBits_zero_f32
  exact add2
    (add2
    (add2
    (add2
    (add2
    (add2
    (add2
    (add2 z (expert_part m c c 0 r h)) (expert_part m c c 1 r h)) (expert_part m c (prv c) 0 r h)) (expert_part m c (nxt c) 1 r h)) (expert_part m c (prv c) 1 r h)) (expert_part m c (nxt c) 0 r h)) (expert_part m c (prv (prv c)) 0 r h)) (expert_part m c (nxt (nxt c)) 1 r h)

end Cert.Moe

end
-- ==== Proof.ReferenceValue.lean ====
/-
What the reference computes, read at an index at the ideal values: the softmax of the row's scores, its entries at the
row's two experts, and the experts' outputs combined by them.
-/
module

public import proofs.«01_k».proof.Proof.Gen.ReferenceIdeal.Run
public import proofs.«01_k».proof.Proof.Gates
public import Idealize.ShloMosaic.Lib.IdealHost
public import Idealize.ShloMosaic.Lib.StackMember
public import Idealize.ShloMosaic.Lib.ValueIdx
public import Idealize.ShloMosaic.Lib.ValueLayout
public import Idealize.ShloMosaic.Lib.ValueLayoutCasts
public import Idealize.ShloMosaic.Lib.Pipeline.Value

@[expose] public section

noncomputable section

namespace Cert.MoeRef

open Cert.ReferenceIdeal Cert.ReferenceIdeal.Gen Cert.Moe
open Idealize.ShloMosaic
open Idealize.ShloMosaic.TcCoe
open Idealize.ShloMosaic.ValueIdx
open Idealize.SL Idealize.SL.Sem

/-! ## The reference's text, folded -/

/-- A vector as a column … -/
def col {α : Type} (v : S2048.Idx → α) : S2048x1.Idx → α := broadcastInDim S2048x1 ![0] bcast_S2048_S2048x1_0 v

/-- … and a column over the lanes. -/
def wide {α : Type} (v : S2048x1.Idx → α) : S2048x8.Idx → α := broadcastInDim S2048x8 ![0, 1] bcast_S2048x1_S2048x8_0_1 v

/-- The sum of each row's lanes … -/
def rowAdd (v : FVec Ideal S2048x8 .f32) : FVec Ideal S2048 .f32 :=
  Host.reduceAdd v (constant S_ .f32 0x00000000#32) reducesTo_S2048x8_S2048_d1 h_S_

/-- … and the greatest. -/
def rowMax (v : FVec Ideal S2048x8 .f32) : FVec Ideal S2048 .f32 :=
  Host.reduce FloatOps.maximumf v (constant S_ .f32 0xFF800000#32) reducesTo_S2048x8_S2048_d1 h_S_

/-- The scores. -/
def scores (x : FVec Ideal S2048x256 .bf16) (rw : FVec Ideal S256x8 .bf16) : FVec Ideal S2048x8 .f32 :=
  Host.dotGeneral dot_S2048x256_S256x8_S2048x8_1_0_0_1_n_n none (extf .f32 x bitsLt_bf16_f32) (extf .f32 rw bitsLt_bf16_f32)

/-- The softmax's numerators … -/
def nums (s : FVec Ideal S2048x8 .f32) : FVec Ideal S2048x8 .f32 := Host.exp (subf s (wide (col (rowMax s))))

/-- … and the softmax. -/
def probs (s : FVec Ideal S2048x8 .f32) : FVec Ideal S2048x8 .f32 := Host.divf (nums s) (wide (col (rowAdd (nums s))))

/-- The rows' first or second expert … -/
def idx0 (i : IVec S2048x2 32) : IVec S2048 32 :=
  shapeCast S2048 (extractStridedSlice S2048x1 ![0, 0] i slices_S2048x2_S2048x1_0_0) shapeCasts_S2048x1_S2048
def idx1 (i : IVec S2048x2 32) : IVec S2048 32 :=
  shapeCast S2048 (extractStridedSlice S2048x1 ![0, 1] i slices_S2048x2_S2048x1_0_1) shapeCasts_S2048x1_S2048

/-- … marked among the eight. -/
def mark (i : IVec S2048 32) : FVec Ideal S2048x8 .f32 :=
  uitofp .f32 (cmpi .eq (wide (col i)) (broadcastInDim S2048x8 ![0, 1] bcast_S1x8_S2048x8_0_1 (iotaInDim S1x8 32 1)))

/-- The marked expert's probability. -/
def gate (i : IVec S2048 32) (p : FVec Ideal S2048x8 .f32) : FVec Ideal S2048x1 .f32 := col (rowAdd (mulf (mark i) p))

/-- Every expert's output. -/
def outs (x : FVec Ideal S2048x256 .bf16) (W : FVec Ideal S8x256x512 .bf16) : FVec Ideal S2048x8x512 .f32 :=
  Host.dotGeneral dot_S2048x256_S8x256x512_S2048x8x512_1_1_0_02_n_n none (extf .f32 x bitsLt_bf16_f32) (extf .f32 W bitsLt_bf16_f32)

/-- The marked expert's output. -/
def pick (i : IVec S2048 32) (y : FVec Ideal S2048x8x512 .f32) : FVec Ideal S2048x512 .f32 :=
  Host.reduceAdd (mulf (broadcastInDim S2048x8x512 ![0, 1, 2] bcast_S2048x8x1_S2048x8x512_0_1_2
    (broadcastInDim S2048x8x1 ![0, 1] bcast_S2048x8_S2048x8x1_0_1 (mark i))) y)
    (constant S_ .f32 0x00000000#32) reducesTo_S2048x8x512_S2048x512_d1 h_S_

/-- A column over the result's columns. -/
def spread (v : FVec Ideal S2048x1 .f32) : FVec Ideal S2048x512 .f32 :=
  broadcastInDim S2048x512 ![0, 1] bcast_S2048x1_S2048x512_0_1 v

/-- The whole of it. -/
def moe (x : FVec Ideal S2048x256 .bf16) (rw : FVec Ideal S256x8 .bf16) (i : IVec S2048x2 32) (W : FVec Ideal S8x256x512 .bf16) :
    FVec Ideal S2048x512 .bf16 :=
  truncf .bf16 (addf
    (mulf (spread (Host.divf (gate (idx0 i) (probs (scores x rw))) (addf (gate (idx0 i) (probs (scores x rw))) (gate (idx1 i) (probs (scores x rw))))))
      (pick (idx0 i) (outs x W)))
    (mulf (spread (Host.divf (gate (idx1 i) (probs (scores x rw))) (addf (gate (idx0 i) (probs (scores x rw))) (gate (idx1 i) (probs (scores x rw))))))
      (pick (idx1 i) (outs x W)))) bitsLt_bf16_f32

variable (m : (ℓ : Loc nD τ sig) → Buf (Elt Ideal) ℓ)

set_option maxRecDepth 8192 in
theorem res_eq (c : Dev nD) : Value.res_main_v42 m c = moe (m ((c.tc : Thread nD τ).loc main_arg0)) (m ((c.tc : Thread nD τ).loc main_arg1))
    (m ((c.tc : Thread nD τ).loc main_arg2)) (m ((c.tc : Thread nD τ).loc main_arg3)) := rfl

/-! ## Read at an index -/

/-- A column cast to a vector reads the row's entry. -/
theorem vector_of_column_apply {n : ℕ} {α : Type} (v : (⟨2, ![n, 1]⟩ : Shape).Idx → α) (h : (⟨2, ![n, 1]⟩ : Shape).ShapeCasts ⟨1, ![n]⟩)
    (r : Fin n) : shapeCast ⟨1, ![n]⟩ v h (ix1 r) = v (ix2 r (0 : Fin 1)) :=
  shapeCast_apply v h _ _ (by rw [Shape.rowMajor_val_two, Shape.rowMajor_val_one]; exact (show r.val * 1 + 0 = r.val by omega))

theorem col_apply {α : Type} (v : S2048.Idx → α) (r : Fin 2048) (j : Fin 1) : col v (ix2 r j) = v (ix1 r) :=
  broadcastInDim_apply _ _ v _ _ fun d => match d with
    | ⟨0, _⟩ => rfl

theorem wide_apply {α : Type} (v : S2048x1.Idx → α) (r : Fin 2048) (e : Fin 8) : wide v (ix2 r e) = v (ix2 r (0 : Fin 1)) :=
  broadcastInDim_apply _ _ v _ _ fun d => match d with
    | ⟨0, _⟩ => rfl
    | ⟨1, _⟩ => rfl

theorem spread_apply (v : FVec Ideal S2048x1 .f32) (r : Fin 2048) (h : Fin 512) : spread v (ix2 r h) = v (ix2 r (0 : Fin 1)) :=
  broadcastInDim_apply _ _ v _ _ fun d => match d with
    | ⟨0, _⟩ => rfl
    | ⟨1, _⟩ => rfl

theorem red : S2048x8.Reduces [1] S2048 := by decide
theorem red3 : S2048x8x512.Reduces [1] S2048x512 := by decide

theorem lift_row (r : Fin 2048) (e : Fin 8) : red.lift (ix1 r) e = ix2 r e := by
  funext a; apply Fin.ext
  match a with
  | ⟨0, _⟩ => rfl
  | ⟨1, _⟩ => rfl

theorem lift_mid (r : Fin 2048) (h : Fin 512) (e : Fin 8) : red3.lift (ix2 r h) e = ix3 r e h := by
  funext a; apply Fin.ext
  match a with
  | ⟨0, _⟩ => rfl
  | ⟨1, _⟩ => rfl
  | ⟨2, _⟩ => rfl

theorem rowAdd_apply (v : FVec Ideal S2048x8 .f32) (r : Fin 2048) : rowAdd v (ix1 r) = 0 + ∑ k : Fin 8, v (ix2 r k) := by
  refine (Ideal.hostReduceAdd_single reducesTo_S2048x8_S2048_d1 red v _ (ix1 r)).trans ?_
  rw [constant_apply, Ideal.ofBits_zero_f32]
  exact congrArg (0 + ·) (Finset.sum_congr rfl fun k _ => congrArg v (lift_row r k))

theorem rowMax_apply (v : FVec Ideal S2048x8 .f32) (r : Fin 2048) : rowMax v (ix1 r) = top fun k => v (ix2 r k) :=
  (Host.reduce_eq_fold_single FloatOps.maximumf v _ reducesTo_S2048x8_S2048_d1 red h_S_ (ix1 r)).trans
    (congrArg (Finset.univ.fold max _) (funext fun k => congrArg v (lift_row r k)))

/-- A row's score for expert `e`. -/
abbrev score (x : S2048x256.Idx → EReal) (rw : S256x8.Idx → EReal) (r : Fin 2048) (e : Fin 8) : EReal :=
  ∑ d : Fin 256, x (ix2 r d) * rw (ix2 d e)

theorem scores_apply (x : FVec Ideal S2048x256 .bf16) (rw : FVec Ideal S256x8 .bf16) (r : Fin 2048) (e : Fin 8) :
    scores x rw (ix2 r e) = score x rw r e :=
  StackMember.dotGeneral_plain_apply none (extf .f32 x bitsLt_bf16_f32) (extf .f32 rw bitsLt_bf16_f32) r e

theorem nums_apply (s : FVec Ideal S2048x8 .f32) (r : Fin 2048) (e : Fin 8) : nums s (ix2 r e) = num (fun k => s (ix2 r k)) e := by
  show Ideal.exp (s (ix2 r e) - wide (col (rowMax s)) (ix2 r e)) = _
  rw [wide_apply, col_apply, rowMax_apply]

theorem probs_apply (s : FVec Ideal S2048x8 .f32) (r : Fin 2048) (e : Fin 8) :
    probs s (ix2 r e) = Ideal.div (num (fun k => s (ix2 r k)) e) (0 + ∑ k, num (fun k => s (ix2 r k)) k) := by
  unfold probs
  rw [hostDivf_apply, wide_apply, col_apply, rowAdd_apply, nums_apply]
  simp only [nums_apply]

theorem idx0_apply (i : IVec S2048x2 32) (r : Fin 2048) : idx0 i (ix1 r) = i (ix2 r (0 : Fin 2)) := by
  unfold idx0
  exact (vector_of_column_apply _ _ r).trans (slice2_axis1_apply 0 i _ r (0 : Fin 1) (0 : Fin 2) rfl)

theorem idx1_apply (i : IVec S2048x2 32) (r : Fin 2048) : idx1 i (ix1 r) = i (ix2 r (1 : Fin 2)) := by
  unfold idx1
  exact (vector_of_column_apply _ _ r).trans (slice2_axis1_apply 1 i _ r (0 : Fin 1) (1 : Fin 2) rfl)

theorem numbers_apply (r : Fin 2048) (e : Fin 8) :
    broadcastInDim S2048x8 ![0, 1] bcast_S1x8_S2048x8_0_1 (iotaInDim S1x8 32 1) (ix2 r e) = lane e :=
  broadcastInDim_apply _ _ _ _ (ix2 (0 : Fin 1) e) fun d => match d with
    | ⟨0, _⟩ => rfl
    | ⟨1, _⟩ => rfl

theorem uitofp_bit (p q : BitVec 32) : (((IntOp.cmpi .eq p q).toNat : ℝ) : EReal) = if p = q then 1 else 0 := by
  unfold IntOp.cmpi
  by_cases h : p = q
  · simp [h]
  · rw [if_neg h, show (p == q) = false by simpa using h]
    simp

theorem mark_apply (i : IVec S2048 32) (r : Fin 2048) (e : Fin 8) : mark i (ix2 r e) = hot (i (ix1 r)) e := by
  refine (uitofp_bit _ _).trans ?_
  rw [numbers_apply, wide_apply, col_apply]

theorem gate_apply (i : IVec S2048 32) (s : FVec Ideal S2048x8 .f32) (r : Fin 2048) :
    gate i (probs s) (ix2 r (0 : Fin 1)) = gateR (fun k => s (ix2 r k)) (i (ix1 r)) := by
  unfold gate
  rw [col_apply, rowAdd_apply]
  simp only [mulf_apply, mark_apply, probs_apply]

theorem outs_apply (x : FVec Ideal S2048x256 .bf16) (W : FVec Ideal S8x256x512 .bf16) (r : Fin 2048) (e : Fin 8) (h : Fin 512) :
    outs x W (ix3 r e h) = ∑ d : Fin 256, x (ix2 r d) * W (ix3 e d h) := by
  refine (Ideal.dotGeneral_apply dot_S2048x256_S8x256x512_S2048x8x512_1_1_0_02_n_n none _ _ _ _).trans ?_
  rw [← Equiv.sum_comp (contrEquiv1 dot_S2048x256_S8x256x512_S2048x8x512_1_1_0_02_n_n 256 rfl rfl).symm]
  refine Finset.sum_congr rfl fun d _ => ?_
  have hd := contrEquiv1_symm_val dot_S2048x256_S8x256x512_S2048x8x512_1_1_0_02_n_n 256 rfl rfl d
  have el : dot_S2048x256_S8x256x512_S2048x8x512_1_1_0_02_n_n.lhsIdx (ix3 r e h) ((contrEquiv1 _ 256 rfl rfl).symm d) = ix2 r d := by
    funext a; apply Fin.ext
    match a with
    | ⟨0, _⟩ => rfl
    | ⟨1, _⟩ => exact hd
  have er : dot_S2048x256_S8x256x512_S2048x8x512_1_1_0_02_n_n.rhsIdx (ix3 r e h) ((contrEquiv1 _ 256 rfl rfl).symm d) = ix3 e d h := by
    funext a; apply Fin.ext
    match a with
    | ⟨0, _⟩ => rfl
    | ⟨1, _⟩ => exact hd
    | ⟨2, _⟩ => rfl
  rw [el, er]
  rfl

theorem marks_apply (v : FVec Ideal S2048x8 .f32) (r : Fin 2048) (e : Fin 8) (h : Fin 512) :
    broadcastInDim S2048x8x512 ![0, 1, 2] bcast_S2048x8x1_S2048x8x512_0_1_2
      (broadcastInDim S2048x8x1 ![0, 1] bcast_S2048x8_S2048x8x1_0_1 v) (ix3 r e h) = v (ix2 r e) :=
  (broadcastInDim_apply _ _ _ _ (ix3 r e (0 : Fin 1)) fun d => match d with
    | ⟨0, _⟩ => rfl
    | ⟨1, _⟩ => rfl
    | ⟨2, _⟩ => rfl).trans
  (broadcastInDim_apply _ _ v _ (ix2 r e) fun d => match d with
    | ⟨0, _⟩ => rfl
    | ⟨1, _⟩ => rfl)

theorem marked_apply (i : IVec S2048 32) (y : FVec Ideal S2048x8x512 .f32) (r : Fin 2048) (e : Fin 8) (h : Fin 512) :
    mulf (broadcastInDim S2048x8x512 ![0, 1, 2] bcast_S2048x8x1_S2048x8x512_0_1_2
      (broadcastInDim S2048x8x1 ![0, 1] bcast_S2048x8_S2048x8x1_0_1 (mark i))) y (ix3 r e h) = hot (i (ix1 r)) e * y (ix3 r e h) := by
  rw [mulf_apply, marks_apply, mark_apply]

theorem pick_apply (i : IVec S2048 32) (y : FVec Ideal S2048x8x512 .f32) (r : Fin 2048) (h : Fin 512) :
    pick i y (ix2 r h) = 0 + ∑ e : Fin 8, hot (i (ix1 r)) e * y (ix3 r e h) := by
  refine (Ideal.hostReduceAdd_single reducesTo_S2048x8x512_S2048x512_d1 red3 _ _ (ix2 r h)).trans ?_
  rw [constant_apply, Ideal.ofBits_zero_f32]
  refine congrArg (0 + ·) (Finset.sum_congr rfl fun e _ => ?_)
  exact (congrArg _ (lift_mid r h e)).trans (marked_apply i y r e h)

/-- The reference's result at row `r`, column `h`. -/
theorem moe_apply (x : FVec Ideal S2048x256 .bf16) (rw : FVec Ideal S256x8 .bf16) (i : IVec S2048x2 32) (W : FVec Ideal S8x256x512 .bf16)
    (r : Fin 2048) (h : Fin 512) : moe x rw i W (ix2 r h)
      = mixR (score x rw r) (i (ix2 r (0 : Fin 2))) (i (ix2 r (1 : Fin 2))) (fun e => ∑ d : Fin 256, x (ix2 r d) * W (ix3 e d h)) := by
  unfold moe
  rw [truncf_apply, addf_apply, mulf_apply, mulf_apply, spread_apply, spread_apply, hostDivf_apply, hostDivf_apply, addf_apply,
    gate_apply, gate_apply, pick_apply, pick_apply, idx0_apply, idx1_apply]
  simp only [scores_apply, outs_apply]

end Cert.MoeRef

end
-- ==== Proof.Precondition.lean ====
/-
The precondition read back: every row entry and every router weight is a real number, and each row names one of the eight
experts at least once.
-/
module

public import proofs.«01_k».proof.Pre_routed_KernelIdeal
public import proofs.«01_k».proof.Pre_routed_ReferenceIdeal
public import proofs.«01_k».proof.Proof.Gates
public import Idealize.ShloMosaic.Lib.ReduceAll
public import Idealize.ShloMosaic.Lib.WordCmp
public import Idealize.ShloMosaic.Lib.IdealHost
public import Idealize.ShloMosaic.Lib.ValueIdx
public import Idealize.ShloMosaic.Lib.ValueLayout

@[expose] public section

noncomputable section

namespace Cert.MoePre

open Cert.Moe
open Idealize.ShloMosaic
open Idealize.ShloMosaic.ValueIdx

/-! ## The shapes' side conditions -/

instance kernelFacts : Cert.Pre_routed_KernelIdeal.Facts where
  bitsLt_bf16_f32 := by decide
  bcast_S_S512x256 := by decide
  reducesTo_S512x256_S_d0_1 := by decide
  h_S_ := by decide
  bcast_S_S256x8 := by decide
  reducesTo_S256x8_S_d0_1 := by decide
  bcast_S_S512x2 := by decide
  slices_S512x2_S512x1_0_0 := by decide
  slices_S512x2_S512x1_0_1 := by decide
  reducesTo_S512x1_S_d0_1 := by decide

instance referenceFacts : Cert.Pre_routed_ReferenceIdeal.Facts where
  bitsLt_bf16_f32 := by decide
  bcast_S_S2048x256 := by decide
  reducesTo_S2048x256_S_d0_1 := by decide
  h_S_ := by decide
  bcast_S_S256x8 := by decide
  reducesTo_S256x8_S_d0_1 := by decide
  bcast_S_S2048x2 := by decide
  slices_S2048x2_S2048x1_0_0 := by decide
  slices_S2048x2_S2048x1_0_1 := by decide
  reducesTo_S2048x1_S_d0_1 := by decide

/-! ## One bit at a time -/

theorem both {a b : BitVec 1} (h : IntOp.andi a b = 1#1) : a = 1#1 ∧ b = 1#1 := by revert a b; decide
theorem either {a b : BitVec 1} (h : IntOp.ori a b = 1#1) : a = 1#1 ∨ b = 1#1 := by revert a b; decide

/-- A value below infinity in size is a real. -/
theorem real_of_bit {x : EReal} (h : Ideal.cmp .olt (max x (-x)) (Ideal.ofBits .f32 0x7F800000#32) = 1#1) : ∃ r : ℝ, x = r := by
  rw [show Ideal.ofBits .f32 0x7F800000#32 = ⊤ by simp [Ideal.ofBits, Ideal.ieee]] at h
  induction x with
  | bot => simp [Ideal.cmp] at h
  | top => simp [Ideal.cmp] at h
  | coe r => exact ⟨r, rfl⟩

/-- A word from 0 on and below 8 is an expert's number. -/
theorem known_of_bit {w : BitVec 32} (h : IntOp.andi (IntOp.cmpi .sge w 0#32) (IntOp.cmpi .slt w 8#32) = 1#1) : ∃ e : Fin 8, w = lane e := by
  rw [show (8#32 : BitVec 32) = BitVec.ofNat 32 8 from rfl, WordCmp.andi_sge_zero_slt_ofNat (by decide)] at h
  have hw : w.toNat < 8 := by
    by_contra hn
    rw [decide_eq_false hn] at h
    exact absurd h (by decide)
  exact ⟨⟨w.toNat, hw⟩, by simp [lane]⟩

instance : Subsingleton (⟨0, ![]⟩ : Shape).Idx := ⟨fun a b => funext fun i => i.elim0⟩

/-- The precondition's meaning on one device's blocks. -/
theorem routed_spec {x : FVec Ideal ⟨2, ![512, 256]⟩ .bf16} {rw : FVec Ideal ⟨2, ![256, 8]⟩ .bf16} {i : IVec ⟨2, ![512, 2]⟩ 32}
    {W : FVec Ideal ⟨3, ![2, 256, 512]⟩ .bf16} (h : Cert.Pre_routed_KernelIdeal.fn (F := Ideal) x rw i W = fun _ => 1#1) :
    (∀ j, ∃ r : ℝ, (x j : EReal) = r) ∧ (∀ j, ∃ r : ℝ, (rw j : EReal) = r)
      ∧ ∀ r : Fin 512, (∃ e, i (ix2 r (0 : Fin 2)) = lane e) ∨ ∃ e, i (ix2 r (1 : Fin 2)) = lane e := by
  obtain ⟨hf, hi⟩ := both (congrFun h ix0)
  obtain ⟨hx, hrw⟩ := both hf
  refine ⟨fun j => real_of_bit ?_, fun j => real_of_bit ?_, fun r => ?_⟩
  · have := Host.reduce_andi_all _ _ _ _ _ hx j
    exact this
  · have := Host.reduce_andi_all _ _ _ _ _ hrw j
    exact this
  · rcases either (Host.reduce_andi_all _ _ _ _ _ hi (ix2 r (0 : Fin 1))) with h0 | h1
    · exact .inl (known_of_bit ((slice2_axis1_apply 0 _ _ r (0 : Fin 1) (0 : Fin 2) rfl).symm.trans h0))
    · exact .inr (known_of_bit ((slice2_axis1_apply 1 _ _ r (0 : Fin 1) (1 : Fin 2) rfl).symm.trans h1))

end Cert.MoePre

end
-- ==== Proof.Algebraic.lean ====
/-
The value claim: at the ideal values the devices' results are the blocks of the reference's result.
-/
module

public import proofs.«01_k».proof.Proof.Frames
public import proofs.«01_k».proof.Proof.KernelValue
public import proofs.«01_k».proof.Proof.ReferenceValue
public import proofs.«01_k».proof.Proof.Precondition

@[expose] public section

noncomputable section

namespace Cert.Moe

open Idealize.ShloMosaic
open Idealize.ShloMosaic.TcCoe
open Idealize.ShloMosaic.ValueIdx
open Idealize.SL.Sem

/-! ## The whole arrays and the devices' blocks of them -/

/-- Row `r` of device `c` among all rows. -/
def row (c : Fin 4) (r : Fin 512) : Fin 2048 := ⟨c.val * 512 + r.val, by omega⟩

theorem rows_block {n : ℕ} {α : Type} (c : Fin 4) (v : (⟨2, ![2048, n]⟩ : Shape).Idx → α)
    (h : Layout.Tiles ⟨2, ![512, n]⟩ ⟨2, ![2048, n]⟩ 0 4) (r : Fin 512) (j : Fin n) :
    Layout.block ⟨2, ![512, n]⟩ ⟨2, ![2048, n]⟩ 0 4 c v h (ix2 r j) = v (ix2 (row c r) j) :=
  congrArg v (funext fun a => Fin.ext (by
    match a with
    | ⟨0, _⟩ => rfl
    | ⟨1, _⟩ => rfl))

theorem experts_block {α : Type} (c : Fin 4) (v : (⟨3, ![8, 256, 512]⟩ : Shape).Idx → α)
    (h : Layout.Tiles ⟨3, ![2, 256, 512]⟩ ⟨3, ![8, 256, 512]⟩ 0 4) (k : Fin 2) (d : Fin 256) (j : Fin 512) (e : Fin 8)
    (he : c.val * 2 + k.val = e.val) :
    Layout.block ⟨3, ![2, 256, 512]⟩ ⟨3, ![8, 256, 512]⟩ 0 4 c v h (ix3 k d j) = v (ix3 e d j) :=
  congrArg v (funext fun a => Fin.ext (by
    match a with
    | ⟨0, _⟩ => exact he
    | ⟨1, _⟩ => rfl
    | ⟨2, _⟩ => rfl))

/-! ## The two results at an index -/

section

variable (m : (ℓ : Loc Cert.KernelIdeal.nD Cert.KernelIdeal.τ Cert.KernelIdeal.sig) → Buf (Elt Ideal) ℓ)
  (X : FVec Ideal ⟨2, ![2048, 256]⟩ .bf16) (R : FVec Ideal ⟨2, ![256, 8]⟩ .bf16) (I : IVec ⟨2, ![2048, 2]⟩ 32)
  (W : FVec Ideal ⟨3, ![8, 256, 512]⟩ .bf16)

/-- Device `c`'s arguments are its parts of the whole ones. -/
structure Parts : Prop where
  x : ∀ c : Dev Cert.KernelIdeal.nD, m ((c.tc : Thread Cert.KernelIdeal.nD Cert.KernelIdeal.τ).loc Cert.KernelIdeal.main_arg0)
    = Layout.block ⟨2, ![512, 256]⟩ ⟨2, ![2048, 256]⟩ 0 4 c X
  rw : ∀ c : Dev Cert.KernelIdeal.nD, m ((c.tc : Thread Cert.KernelIdeal.nD Cert.KernelIdeal.τ).loc Cert.KernelIdeal.main_arg1) = R
  idx : ∀ c : Dev Cert.KernelIdeal.nD, m ((c.tc : Thread Cert.KernelIdeal.nD Cert.KernelIdeal.τ).loc Cert.KernelIdeal.main_arg2)
    = Layout.block ⟨2, ![512, 2]⟩ ⟨2, ![2048, 2]⟩ 0 4 c I
  ew : ∀ c : Dev Cert.KernelIdeal.nD, m ((c.tc : Thread Cert.KernelIdeal.nD Cert.KernelIdeal.τ).loc Cert.KernelIdeal.main_arg3)
    = Layout.block ⟨3, ![2, 256, 512]⟩ ⟨3, ![8, 256, 512]⟩ 0 4 c W

variable {m X R I W}

theorem weight_eq (hp : Parts m X R I W) (e : Fin 8) (d : Fin 256) (h : Fin 512) : weight m e d h = W (ix3 e d h) := by
  unfold weight
  rw [hp.ew]
  exact experts_block _ W _ _ d h e (show e.val / 2 * 2 + e.val % 2 = e.val by omega)

theorem score_eq (hp : Parts m X R I W) (c : Dev Cert.KernelIdeal.nD) (r : Fin 512) :
    score (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) r = Cert.MoeRef.score X R (row c r) := by
  rw [hp.x, hp.rw]
  exact funext fun e => Finset.sum_congr rfl fun d _ => congrArg (· * R (ix2 d e)) (rows_block c X _ r d)

/-- The kernel's result on a device is the reference's block, where the scores are real and each row knows an expert. -/
theorem result_eq (hp : Parts m X R I W) (c : Dev Cert.KernelIdeal.nD)
    (hr : Cert.Pre_routed_KernelIdeal.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = fun _ => 1#1)
    (r h : Fin 512) : (outAt m c (ix2 r h) : EReal) = Cert.MoeRef.moe X R I W (ix2 (row c r) h) := by
  obtain ⟨hx, hw, hi⟩ := Cert.MoePre.routed_spec hr
  have hsc := score_eq hp c r
  have hs : ∀ e, ∃ v : ℝ, Cert.MoeRef.score X R (row c r) e = v := fun e => by
    rw [← hsc]
    exact dot_real _ (fun d => hx (ix2 r d)) fun d => hw (ix2 d e)
  have i0 : m ((c.tc : Thread Cert.KernelIdeal.nD Cert.KernelIdeal.τ).loc Cert.KernelIdeal.main_arg2) (ix2 r (0 : Fin 2)) = I (ix2 (row c r) (0 : Fin 2)) := by
    rw [hp.idx]; exact rows_block c I _ r 0
  have i1 : m ((c.tc : Thread Cert.KernelIdeal.nD Cert.KernelIdeal.τ).loc Cert.KernelIdeal.main_arg2) (ix2 r (1 : Fin 2)) = I (ix2 (row c r) (1 : Fin 2)) := by
    rw [hp.idx]; exact rows_block c I _ r 1
  have hab := hi r
  rw [i0, i1] at hab
  obtain ⟨w, hw0, hk, hm⟩ := gates_agree hs hab
  refine (outAt_apply m c r h).trans (Eq.trans ?_ ((Cert.MoeRef.moe_apply X R I W (row c r) h).trans (hm _)).symm)
  refine Finset.sum_congr (M := EReal) rfl fun e _ => ?_
  unfold part
  rw [hsc, i0, i1, hk]
  simp only [weight_eq hp]
  rw [scaled _ (hw0 e) (fun d => m ((c.tc : Thread Cert.KernelIdeal.nD Cert.KernelIdeal.τ).loc Cert.KernelIdeal.main_arg0) (ix2 r d)) (fun d => W (ix3 e d h))]
  refine congrArg ((w e : EReal) * ·) (Finset.sum_congr rfl fun d _ => congrArg (· * W (ix3 e d h)) ?_)
  rw [hp.x]
  exact rows_block c X _ r d

end

theorem algebraic : Cert.algebraic_KernelIdeal_ReferenceIdeal_pre_routed_KernelIdeal (hKernelIdeal := Cert.KernelIdeal.Gen.facts)
    (hReferenceIdeal := Cert.ReferenceIdeal.Gen.facts) (hPre_routed_KernelIdeal := Cert.MoePre.kernelFacts) := by
  intro m g m' g' hr hp
  refine ⟨Cert.MoeRef.moe (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ⟨?_, kept m g r h.1 c⟩) (run_main (F := Ideal) m g)
    refine ((h.1 c (4 : Fin 5)).trans (finalA_out m g c)).trans (funext fun i => ?_)
    rw [eq_ix2 i]
    refine (result_eq ⟨fun c => (hp c).1, fun c => (hp c).2.1, fun c => (hp c).2.2.1, fun c => (hp c).2.2.2⟩ c (hr c) (i 0) (i 1)).trans ?_
    exact (rows_block c _ _ (i 0) (i 1)).symm
  · exact (θ_run Cert.ReferenceIdeal.defs _ _).mono (fun r h => ⟨(h 0).1.trans (Cert.MoeRef.res_eq m' 0), (h 0).2⟩)
      (Cert.ReferenceIdeal.Value.run (F := Ideal) m' g')

end Cert.Moe

end
-- ==== Proof.lean ====
/-
The certificate of the top-2 expert-parallel mixture of experts: its claims, assembled.
-/
module

public import proofs.«01_k».proof.Defs
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts,
  Cert.MoePre.kernelFacts, Cert.MoePre.referenceFacts,
  Cert.Moe.frame_kernel, Cert.Moe.frame_ideal, fun m g _ => Cert.Moe.frame_ideal m g trivial,
  Cert.Moe.frame_reference, fun m g _ => Cert.Moe.frame_reference m g trivial, trivial, Cert.Moe.algebraic⟩

end Cert.Proof

end
